-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))).1 = (fun _ => 1#1)
    ∧ (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))).2 = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2 = (fun _ => 1#1)

def Pre_KernelIdeal_edges_in_range_finite [hPre_edges_in_range_finite : Cert.Pre_edges_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_edges_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_edges_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_edges_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_edges_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_edges_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_edges_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_edges_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_edges_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_range_finite [hPre_edges_in_range_finite : Cert.Pre_edges_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_edges_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_edges_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_edges_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_edges_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_edges_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_edges_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_edges_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_edges_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2 = (fun _ => 1#1)

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_edges_in_range_finite [hKernelIdeal : Cert.KernelIdeal.Facts] [hPre_edges_in_range_finite : Cert.Pre_edges_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_in_range_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_edges_in_range_finite [hReferenceIdeal : Cert.ReferenceIdeal.Facts] [hPre_edges_in_range_finite : Cert.Pre_edges_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_edges_in_range_finite [hKernelIdeal : Cert.KernelIdeal.Facts] [hReferenceIdeal : Cert.ReferenceIdeal.Facts] [hPre_edges_in_range_finite : Cert.Pre_edges_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_edges_in_range : Cert.Pre_edges_in_range.Facts) (hPre_edges_in_range_finite : Cert.Pre_edges_in_range_finite.Facts),
    quiescent_Kernel (hKernel := hKernel) (hPre_edges_in_range := hPre_edges_in_range)
    ∧ quiescent_KernelIdeal (hKernelIdeal := hKernelIdeal) (hPre_edges_in_range := hPre_edges_in_range)
    ∧ quiescent_KernelIdeal_pre_edges_in_range_finite (hKernelIdeal := hKernelIdeal) (hPre_edges_in_range_finite := hPre_edges_in_range_finite)
    ∧ quiescent_ReferenceIdeal (hReferenceIdeal := hReferenceIdeal)
    ∧ quiescent_ReferenceIdeal_pre_edges_in_range_finite (hReferenceIdeal := hReferenceIdeal) (hPre_edges_in_range_finite := hPre_edges_in_range_finite)
    ∧ preserves_Kernel_KernelIdeal
    ∧ algebraic_KernelIdeal_ReferenceIdeal_pre_edges_in_range_finite (hKernelIdeal := hKernelIdeal) (hReferenceIdeal := hReferenceIdeal) (hPre_edges_in_range_finite := hPre_edges_in_range_finite)
-- ==== Pre_edges_in_range.lean ====
abbrev S10000x128 : Shape := ⟨2, ![10000, 128]⟩
abbrev S2x320000 : Shape := ⟨2, ![2, 320000]⟩
abbrev S320000 : Shape := ⟨1, ![320000]⟩
abbrev S4x128x128 : Shape := ⟨3, ![4, 128, 128]⟩
abbrev S16x4 : Shape := ⟨2, ![16, 4]⟩
abbrev S128x128 : Shape := ⟨2, ![128, 128]⟩
abbrev S128 : Shape := ⟨1, ![128]⟩
abbrev S_ : Shape := ⟨0, ![]⟩

class Facts : Prop where
  bcast_S_S2x320000 : S_.BroadcastsInDim S2x320000 (![] : Fin 0 → Fin S2x320000.rank)
  bcast_S_S320000 : S_.BroadcastsInDim S320000 (![] : Fin 0 → Fin S320000.rank)

variable [Facts]

def fn {F : FTy → Type} [FloatOps F] (main_arg0 : FVec F S10000x128 .f32) (main_arg1 : IVec S2x320000 32) (main_arg2 : IVec S320000 32) (main_arg3 : FVec F S4x128x128 .f32) (main_arg4 : FVec F S16x4 .f32) (main_arg5 : FVec F S128x128 .f32) (main_arg6 : FVec F S128 .f32) (main_arg7 : FVec F S128 .f32) (main_arg8 : FVec F S4x128x128 .f32) (main_arg9 : FVec F S16x4 .f32) (main_arg10 : FVec F S128x128 .f32) (main_arg11 : FVec F S128 .f32) (main_arg12 : FVec F S128 .f32) (main_arg13 : FVec F S_ .f32) : IVec S2x320000 1 × IVec S320000 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 32 := constantI S_ 32 0#32
  let main_v5 : IVec S320000 32 := broadcastInDim S320000 ![] bcast_S_S320000 main_c_1
  let main_v6 : IVec S320000 1 := cmpi .sge main_arg2 main_v5
  let main_c_2 : IVec S_ 32 := constantI S_ 32 16#32
  let main_v7 : IVec S320000 32 := broadcastInDim S320000 ![] bcast_S_S320000 main_c_2
  let main_v8 : IVec S320000 1 := cmpi .slt main_arg2 main_v7
  let main_v9 : IVec S320000 1 := andi main_v6 main_v8
  (main_v4, main_v9)
-- ==== Pre_edges_in_range_finite.lean ====
abbrev S10000x128 : Shape := ⟨2, ![10000, 128]⟩
abbrev S2x320000 : Shape := ⟨2, ![2, 320000]⟩
abbrev S320000 : Shape := ⟨1, ![320000]⟩
abbrev S4x128x128 : Shape := ⟨3, ![4, 128, 128]⟩
abbrev S16x4 : Shape := ⟨2, ![16, 4]⟩
abbrev S128x128 : Shape := ⟨2, ![128, 128]⟩
abbrev S128 : Shape := ⟨1, ![128]⟩
abbrev S_ : Shape := ⟨0, ![]⟩

class Facts : Prop where
  bcast_S_S2x320000 : S_.BroadcastsInDim S2x320000 (![] : Fin 0 → Fin S2x320000.rank)
  bcast_S_S320000 : S_.BroadcastsInDim S320000 (![] : Fin 0 → Fin S320000.rank)
  bcast_S_S10000x128 : S_.BroadcastsInDim S10000x128 (![] : Fin 0 → Fin S10000x128.rank)
  bcast_S_S4x128x128 : S_.BroadcastsInDim S4x128x128 (![] : Fin 0 → Fin S4x128x128.rank)
  bcast_S_S16x4 : S_.BroadcastsInDim S16x4 (![] : Fin 0 → Fin S16x4.rank)
  bcast_S_S128 : S_.BroadcastsInDim S128 (![] : Fin 0 → Fin S128.rank)

variable [Facts]

def fn_part1 {F : FTy → Type} [FloatOps F] (main_arg6 : FVec F S128 .f32) (main_arg7 : FVec F S128 .f32) (main_arg8 : FVec F S4x128x128 .f32) (main_arg9 : FVec F S16x4 .f32) (main_v4 : IVec S2x320000 1) (main_v9 : IVec S320000 1) (main_v12 : IVec S10000x128 1) (main_v15 : IVec S4x128x128 1) (main_v16 : FVec F S16x4 .f32) (main_cst_4 : FVec F S_ .f32) : IVec S2x320000 1 × IVec S320000 1 × IVec S10000x128 1 × IVec S4x128x128 1 × IVec S16x4 1 × IVec S128 1 × IVec S128 1 × IVec S4x128x128 1 × IVec S16x4 1 :=
  let main_v17 : FVec F S16x4 .f32 := broadcastInDim S16x4 ![] bcast_S_S16x4 main_cst_4
  let main_v18 : IVec S16x4 1 := cmpf .olt main_v16 main_v17
  let main_v19 : FVec F S128 .f32 := Host.absf main_arg6
  let main_cst_5 : FVec F S_ .f32 := constant S_ .f32 0x7F800000#32
  let main_v20 : FVec F S128 .f32 := broadcastInDim S128 ![] bcast_S_S128 main_cst_5
  let main_v21 : IVec S128 1 := cmpf .olt main_v19 main_v20
  let main_v22 : FVec F S128 .f32 := Host.absf main_arg7
  let main_cst_6 : FVec F S_ .f32 := constant S_ .f32 0x7F800000#32
  let main_v23 : FVec F S128 .f32 := broadcastInDim S128 ![] bcast_S_S128 main_cst_6
  let main_v24 : IVec S128 1 := cmpf .olt main_v22 main_v23
  let main_v25 : FVec F S4x128x128 .f32 := Host.absf main_arg8
  let main_cst_7 : FVec F S_ .f32 := constant S_ .f32 0x7F800000#32
  let main_v26 : FVec F S4x128x128 .f32 := broadcastInDim S4x128x128 ![] bcast_S_S4x128x128 main_cst_7
  let main_v27 : IVec S4x128x128 1 := cmpf .olt main_v25 main_v26
  let main_v28 : FVec F S16x4 .f32 := Host.absf main_arg9
  let main_cst_8 : FVec F S_ .f32 := constant S_ .f32 0x7F800000#32
  let main_v29 : FVec F S16x4 .f32 := broadcastInDim S16x4 ![] bcast_S_S16x4 main_cst_8
  let main_v30 : IVec S16x4 1 := cmpf .olt main_v28 main_v29
  (main_v4, main_v9, main_v12, main_v15, main_v18, main_v21, main_v24, main_v27, main_v30)

def fn {F : FTy → Type} [FloatOps F] (main_arg0 : FVec F S10000x128 .f32) (main_arg1 : IVec S2x320000 32) (main_arg2 : IVec S320000 32) (main_arg3 : FVec F S4x128x128 .f32) (main_arg4 : FVec F S16x4 .f32) (main_arg5 : FVec F S128x128 .f32) (main_arg6 : FVec F S128 .f32) (main_arg7 : FVec F S128 .f32) (main_arg8 : FVec F S4x128x128 .f32) (main_arg9 : FVec F S16x4 .f32) (main_arg10 : FVec F S128x128 .f32) (main_arg11 : FVec F S128 .f32) (main_arg12 : FVec F S128 .f32) (main_arg13 : FVec F S_ .f32) : IVec S2x320000 1 × IVec S320000 1 × IVec S10000x128 1 × IVec S4x128x128 1 × IVec S16x4 1 × IVec S128 1 × IVec S128 1 × IVec S4x128x128 1 × IVec S16x4 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 32 := constantI S_ 32 0#32
  let main_v5 : IVec S320000 32 := broadcastInDim S320000 ![] bcast_S_S320000 main_c_1
  let main_v6 : IVec S320000 1 := cmpi .sge main_arg2 main_v5
  let main_c_2 : IVec S_ 32 := constantI S_ 32 16#32
  let main_v7 : IVec S320000 32 := broadcastInDim S320000 ![] bcast_S_S320000 main_c_2
  let main_v8 : IVec S320000 1 := cmpi .slt main_arg2 main_v7
  let main_v9 : IVec S320000 1 := andi main_v6 main_v8
  let main_v10 : FVec F S10000x128 .f32 := Host.absf main_arg0
  let main_cst : FVec F S_ .f32 := constant S_ .f32 0x7F800000#32
  let main_v11 : FVec F S10000x128 .f32 := broadcastInDim S10000x128 ![] bcast_S_S10000x128 main_cst
  let main_v12 : IVec S10000x128 1 := cmpf .olt main_v10 main_v11
  let main_v13 : FVec F S4x128x128 .f32 := Host.absf main_arg3
  let main_cst_3 : FVec F S_ .f32 := constant S_ .f32 0x7F800000#32
  let main_v14 : FVec F S4x128x128 .f32 := broadcastInDim S4x128x128 ![] bcast_S_S4x128x128 main_cst_3
  let main_v15 : IVec S4x128x128 1 := cmpf .olt main_v13 main_v14
  let main_v16 : FVec F S16x4 .f32 := Host.absf main_arg4
  let main_cst_4 : FVec F S_ .f32 := constant S_ .f32 0x7F800000#32
  fn_part1 (F := F) main_arg6 main_arg7 main_arg8 main_arg9 main_v4 main_v9 main_v12 main_v15 main_v16 main_cst_4
-- ==== Kernel.lean ====
abbrev S10000x128 : Shape := ⟨2, ![10000, 128]⟩
abbrev S2x320000 : Shape := ⟨2, ![2, 320000]⟩
abbrev S320000 : Shape := ⟨1, ![320000]⟩
abbrev S4x128x128 : Shape := ⟨3, ![4, 128, 128]⟩
abbrev S16x4 : Shape := ⟨2, ![16, 4]⟩
abbrev S128x128 : Shape := ⟨2, ![128, 128]⟩
abbrev S128 : Shape := ⟨1, ![128]⟩
abbrev S_ : Shape := ⟨0, ![]⟩
abbrev S1x320000 : Shape := ⟨2, ![1, 320000]⟩
abbrev S40x1x8000 : Shape := ⟨3, ![40, 1, 8000]⟩
abbrev S1x128 : Shape := ⟨2, ![1, 128]⟩
abbrev S1x1 : Shape := ⟨2, ![1, 1]⟩
abbrev S10000x16 : Shape := ⟨2, ![10000, 16]⟩
abbrev S1x1x8000 : Shape := ⟨3, ![1, 1, 8000]⟩
abbrev S1x16 : Shape := ⟨2, ![1, 16]⟩
abbrev S1x1x1 : Shape := ⟨3, ![1, 1, 1]⟩
abbrev S4x10000x128 : Shape := ⟨3, ![4, 10000, 128]⟩
abbrev S1 : Shape := ⟨1, ![1]⟩
abbrev S1x1x128 : Shape := ⟨3, ![1, 1, 128]⟩
abbrev S400x128 : Shape := ⟨2, ![400, 128]⟩
abbrev S4x400x128 : Shape := ⟨3, ![4, 400, 128]⟩
abbrev S1x400x128 : Shape := ⟨3, ![1, 400, 128]⟩
abbrev S1x128x128 : Shape := ⟨3, ![1, 128, 128]⟩
abbrev S400 : Shape := ⟨1, ![400]⟩
abbrev S400x1 : Shape := ⟨2, ![400, 1]⟩

abbrev nBuf : Space → Nat
  | .hbm => 31
  | .vmem => 27
  | .smem => 20
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .i32⟩
  | .hbm, ⟨3, _⟩ => ⟨S4x128x128, .f32⟩
  | .hbm, ⟨4, _⟩ => ⟨S16x4, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S4x128x128, .f32⟩
  | .hbm, ⟨9, _⟩ => ⟨S16x4, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S1x320000, .i32⟩
  | .hbm, ⟨15, _⟩ => ⟨S320000, .i32⟩
  | .hbm, ⟨16, _⟩ => ⟨S40x1x8000, .i32⟩
  | .hbm, ⟨17, _⟩ => ⟨S1x320000, .i32⟩
  | .hbm, ⟨18, _⟩ => ⟨S320000, .i32⟩
  | .hbm, ⟨19, _⟩ => ⟨S40x1x8000, .i32⟩
  | .hbm, ⟨20, _⟩ => ⟨S40x1x8000, .i32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x1, .f32⟩
  | .hbm, ⟨26, _⟩ => ⟨S10000x16, .f32⟩
  | .hbm, ⟨27, _⟩ => ⟨S4x10000x128, .f32⟩
  | .hbm, ⟨28, _⟩ => ⟨S10000x128, .f32⟩
  | .hbm, ⟨29, _⟩ => ⟨S4x10000x128, .f32⟩
  | .hbm, ⟨30, _⟩ => ⟨S10000x128, .f32⟩
  | .local _ .vmem, ⟨0, _⟩ => ⟨S10000x16, .f32⟩
  | .local _ .vmem, ⟨1, _⟩ => ⟨S10000x128, .f32⟩
  | .local _ .vmem, ⟨2, _⟩ => ⟨S10000x16, .f32⟩
  | .local _ .vmem, ⟨3, _⟩ => ⟨S4x10000x128, .f32⟩
  | .local _ .vmem, ⟨4, _⟩ => ⟨S400x128, .f32⟩
  | .local _ .vmem, ⟨5, _⟩ => ⟨S400x128, .f32⟩
  | .local _ .vmem, ⟨6, _⟩ => ⟨S4x400x128, .f32⟩
  | .local _ .vmem, ⟨7, _⟩ => ⟨S4x400x128, .f32⟩
  | .local _ .vmem, ⟨8, _⟩ => ⟨S4x128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S400x128, .f32⟩
  | .local _ .vmem, ⟨13, _⟩ => ⟨S400x128, .f32⟩
  | .local _ .vmem, ⟨14, _⟩ => ⟨S10000x128, .f32⟩
  | .local _ .vmem, ⟨15, _⟩ => ⟨S10000x16, .f32⟩
  | .local _ .vmem, ⟨16, _⟩ => ⟨S4x10000x128, .f32⟩
  | .local _ .vmem, ⟨17, _⟩ => ⟨S400x128, .f32⟩
  | .local _ .vmem, ⟨18, _⟩ => ⟨S400x128, .f32⟩
  | .local _ .vmem, ⟨19, _⟩ => ⟨S4x400x128, .f32⟩
  | .local _ .vmem, ⟨20, _⟩ => ⟨S4x400x128, .f32⟩
  | .local _ .vmem, ⟨21, _⟩ => ⟨S4x128x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S400x128, .f32⟩
  | .local _ .vmem, ⟨26, _⟩ => ⟨S400x128, .f32⟩
  | .local _ .smem, ⟨0, _⟩ => ⟨S1x1x8000, .i32⟩
  | .local _ .smem, ⟨1, _⟩ => ⟨S1x1x8000, .i32⟩
  | .local _ .smem, ⟨2, _⟩ => ⟨S1x1x8000, .i32⟩
  | .local _ .smem, ⟨3, _⟩ => ⟨S1x1x8000, .i32⟩
  | .local _ .smem, ⟨4, _⟩ => ⟨S1x1x8000, .i32⟩
  | .local _ .smem, ⟨5, _⟩ => ⟨S1x1x8000, .i32⟩
  | .local _ .smem, ⟨6, _⟩ => ⟨S1x1x8000, .i32⟩
  | .local _ .smem, ⟨7, _⟩ => ⟨S1x1x8000, .i32⟩
  | .local _ .smem, ⟨8, _⟩ => ⟨S1x1x8000, .i32⟩
  | .local _ .smem, ⟨9, _⟩ => ⟨S1x1x8000, .i32⟩
  | .local _ .smem, ⟨10, _⟩ => ⟨S16x4, .f32⟩
  | .local _ .smem, ⟨11, _⟩ => ⟨S1x1, .f32⟩
  | .local _ .smem, ⟨12, _⟩ => ⟨S1x1x8000, .i32⟩
  | .local _ .smem, ⟨13, _⟩ => ⟨S1x1x8000, .i32⟩
  | .local _ .smem, ⟨14, _⟩ => ⟨S1x1x8000, .i32⟩
  | .local _ .smem, ⟨15, _⟩ => ⟨S1x1x8000, .i32⟩
  | .local _ .smem, ⟨16, _⟩ => ⟨S1x1x8000, .i32⟩
  | .local _ .smem, ⟨17, _⟩ => ⟨S1x1x8000, .i32⟩
  | .local _ .smem, ⟨18, _⟩ => ⟨S16x4, .f32⟩
  | .local _ .smem, ⟨19, _⟩ => ⟨S1x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | .smem, ⟨12, _⟩ => true
  | .smem, ⟨13, _⟩ => true
  | .smem, ⟨14, _⟩ => true
  | .smem, ⟨15, _⟩ => true
  | .smem, ⟨16, _⟩ => true
  | .smem, ⟨17, _⟩ => true
  | .smem, ⟨18, _⟩ => true
  | .smem, ⟨19, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg2_0 : Ref sig .tc := ⟨.vmem, 0, rfl⟩
abbrev cc1_stg4_0 : Ref sig .tc := ⟨.vmem, 1, rfl⟩
abbrev cc1_stg5_0 : Ref sig .tc := ⟨.vmem, 2, rfl⟩
abbrev cc1_stg6_0 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg7_0 : Ref sig .tc := ⟨.vmem, 12, rfl⟩
abbrev cc2_stg7_1 : Ref sig .tc := ⟨.vmem, 13, rfl⟩
abbrev cc3_stg4_0 : Ref sig .tc := ⟨.vmem, 14, rfl⟩
abbrev cc3_stg5_0 : Ref sig .tc := ⟨.vmem, 15, rfl⟩
abbrev cc3_stg6_0 : Ref sig .tc := ⟨.vmem, 16, rfl⟩
abbrev cc4_stg0_0 : Ref sig .tc := ⟨.vmem, 17, rfl⟩
abbrev cc4_stg0_1 : Ref sig .tc := ⟨.vmem, 18, rfl⟩
abbrev cc4_stg1_0 : Ref sig .tc := ⟨.vmem, 19, rfl⟩
abbrev cc4_stg1_1 : Ref sig .tc := ⟨.vmem, 20, rfl⟩
abbrev cc4_stg2_0 : Ref sig .tc := ⟨.vmem, 21, rfl⟩
abbrev cc4_stg3_0 : Ref sig .tc := ⟨.vmem, 22, rfl⟩
abbrev cc4_stg4_0 : Ref sig .tc := ⟨.vmem, 23, rfl⟩
abbrev cc4_stg5_0 : Ref sig .tc := ⟨.vmem, 24, rfl⟩
abbrev cc4_stg7_0 : Ref sig .tc := ⟨.vmem, 25, rfl⟩
abbrev cc4_stg7_1 : Ref sig .tc := ⟨.vmem, 26, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc1_stg0_0 : Ref sig .tc := ⟨.smem, 4, rfl⟩
abbrev cc1_stg0_1 : Ref sig .tc := ⟨.smem, 5, rfl⟩
abbrev cc1_stg1_0 : Ref sig .tc := ⟨.smem, 6, rfl⟩
abbrev cc1_stg1_1 : Ref sig .tc := ⟨.smem, 7, rfl⟩
abbrev cc1_stg2_0 : Ref sig .tc := ⟨.smem, 8, rfl⟩
abbrev cc1_stg2_1 : Ref sig .tc := ⟨.smem, 9, rfl⟩
abbrev cc1_stg3_0 : Ref sig .tc := ⟨.smem, 10, rfl⟩
abbrev cc2_stg6_0 : Ref sig .tc := ⟨.smem, 11, rfl⟩
abbrev cc3_stg0_0 : Ref sig .tc := ⟨.smem, 12, rfl⟩
abbrev cc3_stg0_1 : Ref sig .tc := ⟨.smem, 13, rfl⟩
abbrev cc3_stg1_0 : Ref sig .tc := ⟨.smem, 14, rfl⟩
abbrev cc3_stg1_1 : Ref sig .tc := ⟨.smem, 15, rfl⟩
abbrev cc3_stg2_0 : Ref sig .tc := ⟨.smem, 16, rfl⟩
abbrev cc3_stg2_1 : Ref sig .tc := ⟨.smem, 17, rfl⟩
abbrev cc3_stg3_0 : Ref sig .tc := ⟨.smem, 18, rfl⟩
abbrev cc4_stg6_0 : Ref sig .tc := ⟨.smem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem6_0 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem7_1 : DmaSem sig := 46

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32_1 : BitVec 32 := 0#32
  let c8000_i32 : BitVec 32 := 8000#32
  let v4 : BitVec 32 := Scalar.addi c0_i32_1 c8000_i32
  let c1_i32 : BitVec 32 := 1#32
  ⟨c0_i32_1, v4, c1_i32⟩
def k0_off1 (k0_t1 : Fin k0_t1_loop.trips) : Fin 3 → Nat :=
  let c0 : Index := 0#32
  let c0_3 : Index := 0#32
  let c0_i32_1 : BitVec 32 := 0#32
  let c1_i32 : BitVec 32 := 1#32
  let arg4 : BitVec 32 := Scf.iv c0_i32_1 c1_i32 k0_t1
  let v5 : Index := Scalar.indexCast arg4
  ![0, 0, v5.toNat]
def k0_off2 (v6 : BitVec 32) : Fin 2 → Nat :=
  let v13 : Index := Scalar.indexCast v6
  let c0_6 : Index := 0#32
  ![v13.toNat, 0]

def k0_chk1 (v6 : BitVec 32) : Prop :=
  (∀ a, (k0_off2 v6) a + S1x16.size a ≤ S10000x16.size a)
theorem k0_off2_inb : ∀ (v6 : BitVec 32) (k0_hw1 : k0_chk1 v6), ∀ a, (k0_off2 v6) a + S1x16.size a ≤ S10000x16.size a := fun v6 k0_hw1 => k0_hw1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .smem S1x1x8000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x8000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![40], ![false]⟩

@[reducible] def k1_t1_loop : Scf.Loop 32 :=
  let c0_i32_1 : BitVec 32 := 0#32
  let c8000_i32 : BitVec 32 := 8000#32
  let v4 : BitVec 32 := Scalar.addi c0_i32_1 c8000_i32
  let c1_i32 : BitVec 32 := 1#32
  ⟨c0_i32_1, v4, c1_i32⟩
def k1_off1 (k1_t1 : Fin k1_t1_loop.trips) : Fin 3 → Nat :=
  let c0 : Index := 0#32
  let c0_3 : Index := 0#32
  let c0_i32_1 : BitVec 32 := 0#32
  let c1_i32 : BitVec 32 := 1#32
  let arg8 : BitVec 32 := Scf.iv c0_i32_1 c1_i32 k1_t1
  let v5 : Index := Scalar.indexCast arg8
  ![0, 0, v5.toNat]
def k1_off2 (v8 : BitVec 32) : Fin 2 → Nat :=
  let v11 : Index := Scalar.indexCast v8
  let c0_8 : Index := 0#32
  ![v11.toNat, 0]

def k1_off3 (v6 : BitVec 32) : Fin 2 → Nat :=
  let v25 : Index := Scalar.indexCast v6
  let c0_11 : Index := 0#32
  ![v25.toNat, 0]

def k1_chk2 (v6 : BitVec 32) : Prop :=
  (∀ a, (k1_off3 v6) a + S1x128.size a ≤ S10000x128.size a)
theorem k1_off3_inb : ∀ (v6 : BitVec 32) (k1_hw2 : k1_chk2 v6), ∀ a, (k1_off3 v6) a + S1x128.size a ≤ S10000x128.size a := fun v6 k1_hw2 => k1_hw2

def k1_off4 (v10 : BitVec 32) : Fin 2 → Nat :=
  let v27 : Index := Scalar.indexCast v10
  let c0_12 : Index := 0#32
  ![v27.toNat, 0]

def k1_off5 (v8 : BitVec 32) : Fin 3 → Nat :=
  let c0_13 : Index := 0#32
  let v31 : Index := Scalar.indexCast v8
  let c0_14 : Index := 0#32
  ![0, v31.toNat, 0]
def k1_off6 (v10 : BitVec 32) : Fin 2 → Nat :=
  let v41 : Index := Scalar.indexCast v10
  let c1 : Index := 1#32
  ![v41.toNat, 1]
def k1_off7 (v8 : BitVec 32) : Fin 3 → Nat :=
  let c1_17 : Index := 1#32
  let v45 : Index := Scalar.indexCast v8
  let c0_18 : Index := 0#32
  ![1, v45.toNat, 0]
def k1_off8 (v10 : BitVec 32) : Fin 2 → Nat :=
  let v55 : Index := Scalar.indexCast v10
  let c2 : Index := 2#32
  ![v55.toNat, 2]
def k1_off9 (v8 : BitVec 32) : Fin 3 → Nat :=
  let c2_21 : Index := 2#32
  let v59 : Index := Scalar.indexCast v8
  let c0_22 : Index := 0#32
  ![2, v59.toNat, 0]
def k1_off10 (v10 : BitVec 32) : Fin 2 → Nat :=
  let v69 : Index := Scalar.indexCast v10
  let c3 : Index := 3#32
  ![v69.toNat, 3]

def k1_chk3 (v10 : BitVec 32) : Prop :=
  (∀ a, (k1_off4 v10) a + S1x1.size a ≤ S16x4.size a) ∧
  (∀ a, (k1_off6 v10) a + S1x1.size a ≤ S16x4.size a) ∧
  (∀ a, (k1_off8 v10) a + S1x1.size a ≤ S16x4.size a) ∧
  (∀ a, (k1_off10 v10) a + S1x1.size a ≤ S16x4.size a)
theorem k1_off4_inb : ∀ (v10 : BitVec 32) (k1_hw3 : k1_chk3 v10), ∀ a, (k1_off4 v10) a + S1x1.size a ≤ S16x4.size a := fun v10 k1_hw3 => k1_hw3.1
theorem k1_off6_inb : ∀ (v10 : BitVec 32) (k1_hw3 : k1_chk3 v10), ∀ a, (k1_off6 v10) a + S1x1.size a ≤ S16x4.size a := fun v10 k1_hw3 => k1_hw3.2.1
theorem k1_off8_inb : ∀ (v10 : BitVec 32) (k1_hw3 : k1_chk3 v10), ∀ a, (k1_off8 v10) a + S1x1.size a ≤ S16x4.size a := fun v10 k1_hw3 => k1_hw3.2.2.1
theorem k1_off10_inb : ∀ (v10 : BitVec 32) (k1_hw3 : k1_chk3 v10), ∀ a, (k1_off10 v10) a + S1x1.size a ≤ S16x4.size a := fun v10 k1_hw3 => k1_hw3.2.2.2

def k1_off11 (v8 : BitVec 32) : Fin 3 → Nat :=
  let c3_25 : Index := 3#32
  let v73 : Index := Scalar.indexCast v8
  let c0_26 : Index := 0#32
  ![3, v73.toNat, 0]

def k1_chk1 (v8 : BitVec 32) : Prop :=
  (∀ a, (k1_off2 v8) a + S1x16.size a ≤ S10000x16.size a) ∧
  (∀ a, (k1_off5 v8) a + S1x1x128.size a ≤ S4x10000x128.size a) ∧
  (∀ a, (k1_off7 v8) a + S1x1x128.size a ≤ S4x10000x128.size a) ∧
  (∀ a, (k1_off9 v8) a + S1x1x128.size a ≤ S4x10000x128.size a) ∧
  (∀ a, (k1_off11 v8) a + S1x1x128.size a ≤ S4x10000x128.size a)
theorem k1_off2_inb : ∀ (v8 : BitVec 32) (k1_hw1 : k1_chk1 v8), ∀ a, (k1_off2 v8) a + S1x16.size a ≤ S10000x16.size a := fun v8 k1_hw1 => k1_hw1.1
theorem k1_off5_inb : ∀ (v8 : BitVec 32) (k1_hw1 : k1_chk1 v8), ∀ a, (k1_off5 v8) a + S1x1x128.size a ≤ S4x10000x128.size a := fun v8 k1_hw1 => k1_hw1.2.1
theorem k1_off7_inb : ∀ (v8 : BitVec 32) (k1_hw1 : k1_chk1 v8), ∀ a, (k1_off7 v8) a + S1x1x128.size a ≤ S4x10000x128.size a := fun v8 k1_hw1 => k1_hw1.2.2.1
theorem k1_off9_inb : ∀ (v8 : BitVec 32) (k1_hw1 : k1_chk1 v8), ∀ a, (k1_off9 v8) a + S1x1x128.size a ≤ S4x10000x128.size a := fun v8 k1_hw1 => k1_hw1.2.2.2.1
theorem k1_off11_inb : ∀ (v8 : BitVec 32) (k1_hw1 : k1_chk1 v8), ∀ a, (k1_off11 v8) a + S1x1x128.size a ≤ S4x10000x128.size a := fun v8 k1_hw1 => k1_hw1.2.2.2.2

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .smem S1x1x8000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S1x1x8000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .smem S1x1x8000 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S16x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S10000x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S10000x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x10000x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x400x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .smem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S400x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![40], ![false]⟩

@[reducible] def k3_t1_loop : Scf.Loop 32 :=
  let c0_i32_1 : BitVec 32 := 0#32
  let c8000_i32 : BitVec 32 := 8000#32
  let v4 : BitVec 32 := Scalar.addi c0_i32_1 c8000_i32
  let c1_i32 : BitVec 32 := 1#32
  ⟨c0_i32_1, v4, c1_i32⟩
def k3_off1 (k3_t1 : Fin k3_t1_loop.trips) : Fin 3 → Nat :=
  let c0 : Index := 0#32
  let c0_3 : Index := 0#32
  let c0_i32_1 : BitVec 32 := 0#32
  let c1_i32 : BitVec 32 := 1#32
  let arg8 : BitVec 32 := Scf.iv c0_i32_1 c1_i32 k3_t1
  let v5 : Index := Scalar.indexCast arg8
  ![0, 0, v5.toNat]
def k3_off2 (v8 : BitVec 32) : Fin 2 → Nat :=
  let v11 : Index := Scalar.indexCast v8
  let c0_8 : Index := 0#32
  ![v11.toNat, 0]

def k3_off3 (v6 : BitVec 32) : Fin 2 → Nat :=
  let v25 : Index := Scalar.indexCast v6
  let c0_11 : Index := 0#32
  ![v25.toNat, 0]

def k3_chk2 (v6 : BitVec 32) : Prop :=
  (∀ a, (k3_off3 v6) a + S1x128.size a ≤ S10000x128.size a)
theorem k3_off3_inb : ∀ (v6 : BitVec 32) (k3_hw2 : k3_chk2 v6), ∀ a, (k3_off3 v6) a + S1x128.size a ≤ S10000x128.size a := fun v6 k3_hw2 => k3_hw2

def k3_off4 (v10 : BitVec 32) : Fin 2 → Nat :=
  let v28 : Index := Scalar.indexCast v10
  let c0_12 : Index := 0#32
  ![v28.toNat, 0]

def k3_off5 (v8 : BitVec 32) : Fin 3 → Nat :=
  let c0_13 : Index := 0#32
  let v32 : Index := Scalar.indexCast v8
  let c0_14 : Index := 0#32
  ![0, v32.toNat, 0]
def k3_off6 (v10 : BitVec 32) : Fin 2 → Nat :=
  let v42 : Index := Scalar.indexCast v10
  let c1 : Index := 1#32
  ![v42.toNat, 1]
def k3_off7 (v8 : BitVec 32) : Fin 3 → Nat :=
  let c1_17 : Index := 1#32
  let v46 : Index := Scalar.indexCast v8
  let c0_18 : Index := 0#32
  ![1, v46.toNat, 0]
def k3_off8 (v10 : BitVec 32) : Fin 2 → Nat :=
  let v56 : Index := Scalar.indexCast v10
  let c2 : Index := 2#32
  ![v56.toNat, 2]
def k3_off9 (v8 : BitVec 32) : Fin 3 → Nat :=
  let c2_21 : Index := 2#32
  let v60 : Index := Scalar.indexCast v8
  let c0_22 : Index := 0#32
  ![2, v60.toNat, 0]
def k3_off10 (v10 : BitVec 32) : Fin 2 → Nat :=
  let v70 : Index := Scalar.indexCast v10
  let c3 : Index := 3#32
  ![v70.toNat, 3]

def k3_chk3 (v10 : BitVec 32) : Prop :=
  (∀ a, (k3_off4 v10) a + S1x1.size a ≤ S16x4.size a) ∧
  (∀ a, (k3_off6 v10) a + S1x1.size a ≤ S16x4.size a) ∧
  (∀ a, (k3_off8 v10) a + S1x1.size a ≤ S16x4.size a) ∧
  (∀ a, (k3_off10 v10) a + S1x1.size a ≤ S16x4.size a)
theorem k3_off4_inb : ∀ (v10 : BitVec 32) (k3_hw3 : k3_chk3 v10), ∀ a, (k3_off4 v10) a + S1x1.size a ≤ S16x4.size a := fun v10 k3_hw3 => k3_hw3.1
theorem k3_off6_inb : ∀ (v10 : BitVec 32) (k3_hw3 : k3_chk3 v10), ∀ a, (k3_off6 v10) a + S1x1.size a ≤ S16x4.size a := fun v10 k3_hw3 => k3_hw3.2.1
theorem k3_off8_inb : ∀ (v10 : BitVec 32) (k3_hw3 : k3_chk3 v10), ∀ a, (k3_off8 v10) a + S1x1.size a ≤ S16x4.size a := fun v10 k3_hw3 => k3_hw3.2.2.1
theorem k3_off10_inb : ∀ (v10 : BitVec 32) (k3_hw3 : k3_chk3 v10), ∀ a, (k3_off10 v10) a + S1x1.size a ≤ S16x4.size a := fun v10 k3_hw3 => k3_hw3.2.2.2

def k3_off11 (v8 : BitVec 32) : Fin 3 → Nat :=
  let c3_25 : Index := 3#32
  let v74 : Index := Scalar.indexCast v8
  let c0_26 : Index := 0#32
  ![3, v74.toNat, 0]

def k3_chk1 (v8 : BitVec 32) : Prop :=
  (∀ a, (k3_off2 v8) a + S1x16.size a ≤ S10000x16.size a) ∧
  (∀ a, (k3_off5 v8) a + S1x1x128.size a ≤ S4x10000x128.size a) ∧
  (∀ a, (k3_off7 v8) a + S1x1x128.size a ≤ S4x10000x128.size a) ∧
  (∀ a, (k3_off9 v8) a + S1x1x128.size a ≤ S4x10000x128.size a) ∧
  (∀ a, (k3_off11 v8) a + S1x1x128.size a ≤ S4x10000x128.size a)
theorem k3_off2_inb : ∀ (v8 : BitVec 32) (k3_hw1 : k3_chk1 v8), ∀ a, (k3_off2 v8) a + S1x16.size a ≤ S10000x16.size a := fun v8 k3_hw1 => k3_hw1.1
theorem k3_off5_inb : ∀ (v8 : BitVec 32) (k3_hw1 : k3_chk1 v8), ∀ a, (k3_off5 v8) a + S1x1x128.size a ≤ S4x10000x128.size a := fun v8 k3_hw1 => k3_hw1.2.1
theorem k3_off7_inb : ∀ (v8 : BitVec 32) (k3_hw1 : k3_chk1 v8), ∀ a, (k3_off7 v8) a + S1x1x128.size a ≤ S4x10000x128.size a := fun v8 k3_hw1 => k3_hw1.2.2.1
theorem k3_off9_inb : ∀ (v8 : BitVec 32) (k3_hw1 : k3_chk1 v8), ∀ a, (k3_off9 v8) a + S1x1x128.size a ≤ S4x10000x128.size a := fun v8 k3_hw1 => k3_hw1.2.2.2.1
theorem k3_off11_inb : ∀ (v8 : BitVec 32) (k3_hw1 : k3_chk1 v8), ∀ a, (k3_off11 v8) a + S1x1x128.size a ≤ S4x10000x128.size a := fun v8 k3_hw1 => k3_hw1.2.2.2.2

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage3_0 : Fin 2 → Memref sig .tc .smem S1x1x8000 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .smem S1x1x8000 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .smem S1x1x8000 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .smem S16x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S10000x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S10000x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S4x10000x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4x400x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4x128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .smem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S400x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]
-- ==== ReferenceIdeal.lean ====
abbrev S10000x128 : Shape := ⟨2, ![10000, 128]⟩
abbrev S2x320000 : Shape := ⟨2, ![2, 320000]⟩
abbrev S320000 : Shape := ⟨1, ![320000]⟩
abbrev S4x128x128 : Shape := ⟨3, ![4, 128, 128]⟩
abbrev S16x4 : Shape := ⟨2, ![16, 4]⟩
abbrev S128x128 : Shape := ⟨2, ![128, 128]⟩
abbrev S128 : Shape := ⟨1, ![128]⟩
abbrev S_ : Shape := ⟨0, ![]⟩
abbrev S16x128x128 : Shape := ⟨3, ![16, 128, 128]⟩
abbrev S1x320000 : Shape := ⟨2, ![1, 320000]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S160000x128 : Shape := ⟨2, ![160000, 128]⟩
abbrev S160000 : Shape := ⟨1, ![160000]⟩
abbrev S16x10000x128 : Shape := ⟨3, ![16, 10000, 128]⟩
abbrev S16x10000x1 : Shape := ⟨3, ![16, 10000, 1]⟩
abbrev S10000 : Shape := ⟨1, ![10000]⟩
abbrev S10000x1 : Shape := ⟨2, ![10000, 1]⟩
abbrev S1x128 : Shape := ⟨2, ![1, 128]⟩

abbrev nBuf : Space → Nat
  | .hbm => 214
  | .vmem => 0
  | .smem => 0
  | _ => 0

abbrev hbmTy0_0 (i : Nat) : BufTy := match i % 128 with
  | 0 => ⟨S10000x128, .f32⟩
  | 1 => ⟨S2x320000, .i32⟩
  | 2 => ⟨S320000, .i32⟩
  | 3 => ⟨S4x128x128, .f32⟩
  | 4 => ⟨S16x4, .f32⟩
  | 5 => ⟨S128x128, .f32⟩
  | 6 => ⟨S128, .f32⟩
  | 7 => ⟨S128, .f32⟩
  | 8 => ⟨S4x128x128, .f32⟩
  | 9 => ⟨S16x4, .f32⟩
  | 10 => ⟨S128x128, .f32⟩
  | 11 => ⟨S128, .f32⟩
  | 12 => ⟨S128, .f32⟩
  | 13 => ⟨S_, .f32⟩
  | 14 => ⟨S16x128x128, .f32⟩
  | 15 => ⟨S1x320000, .i32⟩
  | 16 => ⟨S320000, .i32⟩
  | 17 => ⟨S1x320000, .i32⟩
  | 18 => ⟨S320000, .i32⟩
  | 19 => ⟨S_, .i32⟩
  | 20 => ⟨S320000, .i32⟩
  | 21 => ⟨S320000, .i32⟩
  | 22 => ⟨S320000, .i32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S1, .i32⟩
  | 32 => ⟨S_, .i32⟩
  | 33 => ⟨S320000x1, .i32⟩
  | 34 => ⟨S320000x1, .i1⟩
  | 35 => ⟨S1x1, .i32⟩
  | 36 => ⟨S320000x1, .i32⟩
  | 37 => ⟨S320000x1, .i1⟩
  | 38 => ⟨S320000x1, .i1⟩
  | 39 => ⟨S_, .i1⟩
  | 40 => ⟨S320000, .i1⟩
  | 41 => ⟨S320000x128, .f32⟩
  | 42 => ⟨S320000x128, .i1⟩
  | 43 => ⟨S_, .f32⟩
  | 44 => ⟨S320000x128, .f32⟩
  | 45 => ⟨S320000x128, .f32⟩
  | 46 => ⟨S_, .f32⟩
  | 47 => ⟨S160000x128, .f32⟩
  | 48 => ⟨S320000x1, .i32⟩
  | 49 => ⟨S160000x128, .f32⟩
  | 50 => ⟨S_, .f32⟩
  | 51 => ⟨S320000, .f32⟩
  | 52 => ⟨S_, .f32⟩
  | 53 => ⟨S160000, .f32⟩
  | 54 => ⟨S320000x1, .i32⟩
  | 55 => ⟨S160000, .f32⟩
  | 56 => ⟨S16x10000x128, .f32⟩
  | 57 => ⟨S16x10000x1, .f32⟩
  | 58 => ⟨S_, .f32⟩
  | 59 => ⟨S_, .f32⟩
  | 60 => ⟨S16x10000x1, .f32⟩
  | 61 => ⟨S16x10000x1, .f32⟩
  | 62 => ⟨S16x10000x128, .f32⟩
  | 63 => ⟨S16x10000x128, .f32⟩
  | 64 => ⟨S10000x128, .f32⟩
  | 65 => ⟨S10000x128, .f32⟩
  | 66 => ⟨S10000x128, .f32⟩
  | 67 => ⟨S_, .f32⟩
  | 68 => ⟨S10000, .f32⟩
  | 69 => ⟨S10000x1, .f32⟩
  | 70 => ⟨S_, .f32⟩
  | 71 => ⟨S10000x1, .f32⟩
  | 72 => ⟨S10000x1, .f32⟩
  | 73 => ⟨S_, .i32⟩
  | 74 => ⟨S_, .f32⟩
  | 75 => ⟨S10000, .f32⟩
  | 76 => ⟨S10000x1, .f32⟩
  | 77 => ⟨S_, .f32⟩
  | 78 => ⟨S10000x1, .f32⟩
  | 79 => ⟨S10000x1, .f32⟩
  | 80 => ⟨S10000x128, .f32⟩
  | 81 => ⟨S10000x128, .f32⟩
  | 82 => ⟨S10000x128, .f32⟩
  | 83 => ⟨S_, .f32⟩
  | 84 => ⟨S_, .f32⟩
  | 85 => ⟨S_, .f32⟩
  | 86 => ⟨S_, .f32⟩
  | 87 => ⟨S10000, .f32⟩
  | 88 => ⟨S10000x1, .f32⟩
  | 89 => ⟨S10000x1, .f32⟩
  | 90 => ⟨S10000x1, .f32⟩
  | 91 => ⟨S_, .f32⟩
  | 92 => ⟨S_, .i1⟩
  | 93 => ⟨S_, .f32⟩
  | 94 => ⟨S_, .f32⟩
  | 95 => ⟨S10000x1, .f32⟩
  | 96 => ⟨S10000x1, .f32⟩
  | 97 => ⟨S10000x128, .f32⟩
  | 98 => ⟨S10000x128, .f32⟩
  | 99 => ⟨S_, .f32⟩
  | 100 => ⟨S10000x1, .f32⟩
  | 101 => ⟨S10000x1, .f32⟩
  | 102 => ⟨S10000x1, .f32⟩
  | 103 => ⟨S10000x128, .f32⟩
  | 104 => ⟨S10000x128, .f32⟩
  | 105 => ⟨S1x128, .f32⟩
  | 106 => ⟨S10000x128, .f32⟩
  | 107 => ⟨S10000x128, .f32⟩
  | 108 => ⟨S1x128, .f32⟩
  | 109 => ⟨S10000x128, .f32⟩
  | 110 => ⟨S10000x128, .f32⟩
  | 111 => ⟨S_, .f32⟩
  | 112 => ⟨S10000x128, .f32⟩
  | 113 => ⟨S10000x128, .f32⟩
  | 114 => ⟨S16x128x128, .f32⟩
  | 115 => ⟨S1x320000, .i32⟩
  | 116 => ⟨S320000, .i32⟩
  | 117 => ⟨S1x320000, .i32⟩
  | 118 => ⟨S320000, .i32⟩
  | 119 => ⟨S_, .i32⟩
  | 120 => ⟨S320000, .i32⟩
  | 121 => ⟨S320000, .i32⟩
  | 122 => ⟨S320000, .i32⟩
  | 123 => ⟨S_, .i32⟩
  | 124 => ⟨S320000, .i32⟩
  | 125 => ⟨S320000, .i1⟩
  | 126 => ⟨S_, .i32⟩
  | 127 => ⟨S320000, .i32⟩
  | _ => ⟨S10000x128, .f32⟩

abbrev hbmTy0_1 (i : Nat) : BufTy := match i % 128 with
  | 0 => ⟨S320000, .i32⟩
  | 1 => ⟨S320000, .i32⟩
  | 2 => ⟨S320000x1, .i32⟩
  | 3 => ⟨S1, .i32⟩
  | 4 => ⟨S_, .i32⟩
  | 5 => ⟨S320000x1, .i32⟩
  | 6 => ⟨S320000x1, .i1⟩
  | 7 => ⟨S1x1, .i32⟩
  | 8 => ⟨S320000x1, .i32⟩
  | 9 => ⟨S320000x1, .i1⟩
  | 10 => ⟨S320000x1, .i1⟩
  | 11 => ⟨S_, .i1⟩
  | 12 => ⟨S320000, .i1⟩
  | 13 => ⟨S320000x128, .f32⟩
  | 14 => ⟨S320000x128, .i1⟩
  | 15 => ⟨S_, .f32⟩
  | 16 => ⟨S320000x128, .f32⟩
  | 17 => ⟨S320000x128, .f32⟩
  | 18 => ⟨S_, .f32⟩
  | 19 => ⟨S160000x128, .f32⟩
  | 20 => ⟨S320000x1, .i32⟩
  | 21 => ⟨S160000x128, .f32⟩
  | 22 => ⟨S_, .f32⟩
  | 23 => ⟨S320000, .f32⟩
  | 24 => ⟨S_, .f32⟩
  | 25 => ⟨S160000, .f32⟩
  | 26 => ⟨S320000x1, .i32⟩
  | 27 => ⟨S160000, .f32⟩
  | 28 => ⟨S16x10000x128, .f32⟩
  | 29 => ⟨S16x10000x1, .f32⟩
  | 30 => ⟨S_, .f32⟩
  | 31 => ⟨S_, .f32⟩
  | 32 => ⟨S16x10000x1, .f32⟩
  | 33 => ⟨S16x10000x1, .f32⟩
  | 34 => ⟨S16x10000x128, .f32⟩
  | 35 => ⟨S16x10000x128, .f32⟩
  | 36 => ⟨S10000x128, .f32⟩
  | 37 => ⟨S10000x128, .f32⟩
  | 38 => ⟨S10000x128, .f32⟩
  | 39 => ⟨S_, .f32⟩
  | 40 => ⟨S10000, .f32⟩
  | 41 => ⟨S10000x1, .f32⟩
  | 42 => ⟨S_, .f32⟩
  | 43 => ⟨S10000x1, .f32⟩
  | 44 => ⟨S10000x1, .f32⟩
  | 45 => ⟨S_, .i32⟩
  | 46 => ⟨S_, .f32⟩
  | 47 => ⟨S10000, .f32⟩
  | 48 => ⟨S10000x1, .f32⟩
  | 49 => ⟨S_, .f32⟩
  | 50 => ⟨S10000x1, .f32⟩
  | 51 => ⟨S10000x1, .f32⟩
  | 52 => ⟨S10000x128, .f32⟩
  | 53 => ⟨S10000x128, .f32⟩
  | 54 => ⟨S10000x128, .f32⟩
  | 55 => ⟨S_, .f32⟩
  | 56 => ⟨S_, .f32⟩
  | 57 => ⟨S_, .f32⟩
  | 58 => ⟨S_, .f32⟩
  | 59 => ⟨S10000, .f32⟩
  | 60 => ⟨S10000x1, .f32⟩
  | 61 => ⟨S10000x1, .f32⟩
  | 62 => ⟨S10000x1, .f32⟩
  | 63 => ⟨S_, .f32⟩
  | 64 => ⟨S_, .i1⟩
  | 65 => ⟨S_, .f32⟩
  | 66 => ⟨S_, .f32⟩
  | 67 => ⟨S10000x1, .f32⟩
  | 68 => ⟨S10000x1, .f32⟩
  | 69 => ⟨S10000x128, .f32⟩
  | 70 => ⟨S10000x128, .f32⟩
  | 71 => ⟨S_, .f32⟩
  | 72 => ⟨S10000x1, .f32⟩
  | 73 => ⟨S10000x1, .f32⟩
  | 74 => ⟨S10000x1, .f32⟩
  | 75 => ⟨S10000x128, .f32⟩
  | 76 => ⟨S10000x128, .f32⟩
  | 77 => ⟨S1x128, .f32⟩
  | 78 => ⟨S10000x128, .f32⟩
  | 79 => ⟨S10000x128, .f32⟩
  | 80 => ⟨S1x128, .f32⟩
  | 81 => ⟨S10000x128, .f32⟩
  | 82 => ⟨S10000x128, .f32⟩
  | 83 => ⟨S10000x128, .f32⟩
  | 84 => ⟨S10000x128, .f32⟩
  | 85 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v8 : Ref sig .tc := ⟨.hbm, 45, rfl⟩
abbrev main_cst : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_0 : Ref sig .tc := ⟨.hbm, 50, rfl⟩
abbrev main_v12 : Ref sig .tc := ⟨.hbm, 51, rfl⟩
abbrev main_cst_1 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_2 : Ref sig .tc := ⟨.hbm, 58, rfl⟩
abbrev main_call1_v0 : Ref sig .tc := ⟨.hbm, 59, rfl⟩
abbrev main_call1_v1 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_3 : Ref sig .tc := ⟨.hbm, 67, rfl⟩
abbrev main_v24 : Ref sig .tc := ⟨.hbm, 68, rfl⟩
abbrev main_v25 : Ref sig .tc := ⟨.hbm, 69, rfl⟩
abbrev main_cst_4 : Ref sig .tc := ⟨.hbm, 70, rfl⟩
abbrev main_v26 : Ref sig .tc := ⟨.hbm, 71, rfl⟩
abbrev main_v27 : Ref sig .tc := ⟨.hbm, 72, rfl⟩
abbrev main_c_5 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_cst_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_cst_1 : Ref sig .tc := ⟨.hbm, 84, rfl⟩
abbrev main_call2_v8 : Ref sig .tc := ⟨.hbm, 85, rfl⟩
abbrev main_call2_cst_2 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_v12 : Ref sig .tc := ⟨.hbm, 90, rfl⟩
abbrev main_call2_cst_3 : Ref sig .tc := ⟨.hbm, 91, rfl⟩
abbrev main_call2_v13 : Ref sig .tc := ⟨.hbm, 92, rfl⟩
abbrev main_call2_cst_4 : Ref sig .tc := ⟨.hbm, 93, rfl⟩
abbrev main_call2_call0_v0 : Ref sig .tc := ⟨.hbm, 94, rfl⟩
abbrev main_call2_call0_v1 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_cst_6 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_call3_cst : Ref sig .tc := ⟨.hbm, 111, rfl⟩
abbrev main_call3_v0 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_c_7 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_call4_c : Ref sig .tc := ⟨.hbm, 123, rfl⟩
abbrev main_call4_v0 : Ref sig .tc := ⟨.hbm, 124, rfl⟩
abbrev main_call4_v1 : Ref sig .tc := ⟨.hbm, 125, rfl⟩
abbrev main_call4_c_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_c_1 : Ref sig .tc := ⟨.hbm, 131, rfl⟩
abbrev main_call4_c_2 : Ref sig .tc := ⟨.hbm, 132, rfl⟩
abbrev main_call4_v6 : Ref sig .tc := ⟨.hbm, 133, rfl⟩
abbrev main_call4_v7 : Ref sig .tc := ⟨.hbm, 134, rfl⟩
abbrev main_call4_v8 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_c_3 : Ref sig .tc := ⟨.hbm, 139, rfl⟩
abbrev main_call4_v12 : Ref sig .tc := ⟨.hbm, 140, rfl⟩
abbrev main_call4_v13 : Ref sig .tc := ⟨.hbm, 141, rfl⟩
abbrev main_call4_v14 : Ref sig .tc := ⟨.hbm, 142, rfl⟩
abbrev main_call4_cst : Ref sig .tc := ⟨.hbm, 143, rfl⟩
abbrev main_call4_v15 : Ref sig .tc := ⟨.hbm, 144, rfl⟩
abbrev main_v51 : Ref sig .tc := ⟨.hbm, 145, rfl⟩
abbrev main_cst_8 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_cst_9 : Ref sig .tc := ⟨.hbm, 150, rfl⟩
abbrev main_v55 : Ref sig .tc := ⟨.hbm, 151, rfl⟩
abbrev main_cst_10 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_cst_11 : Ref sig .tc := ⟨.hbm, 158, rfl⟩
abbrev main_call5_v0 : Ref sig .tc := ⟨.hbm, 159, rfl⟩
abbrev main_call5_v1 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_cst_12 : Ref sig .tc := ⟨.hbm, 167, rfl⟩
abbrev main_v67 : Ref sig .tc := ⟨.hbm, 168, rfl⟩
abbrev main_v68 : Ref sig .tc := ⟨.hbm, 169, rfl⟩
abbrev main_cst_13 : Ref sig .tc := ⟨.hbm, 170, rfl⟩
abbrev main_v69 : Ref sig .tc := ⟨.hbm, 171, rfl⟩
abbrev main_v70 : Ref sig .tc := ⟨.hbm, 172, rfl⟩
abbrev main_c_14 : Ref sig .tc := ⟨.hbm, 173, rfl⟩
abbrev main_call6_cst : Ref sig .tc := ⟨.hbm, 174, rfl⟩
abbrev main_call6_v0 : Ref sig .tc := ⟨.hbm, 175, rfl⟩
abbrev main_call6_v1 : Ref sig .tc := ⟨.hbm, 176, rfl⟩
abbrev main_call6_cst_0 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_call6_v5 : Ref sig .tc := ⟨.hbm, 181, rfl⟩
abbrev main_call6_v6 : Ref sig .tc := ⟨.hbm, 182, rfl⟩
abbrev main_call6_v7 : Ref sig .tc := ⟨.hbm, 183, rfl⟩
abbrev main_call6_cst_1 : Ref sig .tc := ⟨.hbm, 184, rfl⟩
abbrev main_call6_v8 : Ref sig .tc := ⟨.hbm, 185, rfl⟩
abbrev main_call6_cst_2 : Ref sig .tc := ⟨.hbm, 186, rfl⟩
abbrev main_call6_v9 : Ref sig .tc := ⟨.hbm, 187, rfl⟩
abbrev main_call6_v10 : Ref sig .tc := ⟨.hbm, 188, rfl⟩
abbrev main_call6_v11 : Ref sig .tc := ⟨.hbm, 189, rfl⟩
abbrev main_call6_v12 : Ref sig .tc := ⟨.hbm, 190, rfl⟩
abbrev main_call6_cst_3 : Ref sig .tc := ⟨.hbm, 191, rfl⟩
abbrev main_call6_v13 : Ref sig .tc := ⟨.hbm, 192, rfl⟩
abbrev main_call6_cst_4 : Ref sig .tc := ⟨.hbm, 193, rfl⟩
abbrev main_call6_call0_v0 : Ref sig .tc := ⟨.hbm, 194, rfl⟩
abbrev main_call6_call0_v1 : Ref sig .tc := ⟨.hbm, 195, rfl⟩
abbrev main_v71 : Ref sig .tc := ⟨.hbm, 196, rfl⟩
abbrev main_v72 : Ref sig .tc := ⟨.hbm, 197, rfl⟩
abbrev main_v73 : Ref sig .tc := ⟨.hbm, 198, rfl⟩
abbrev main_cst_15 : Ref sig .tc := ⟨.hbm, 199, rfl⟩
abbrev main_v74 : Ref sig .tc := ⟨.hbm, 200, rfl⟩
abbrev main_v75 : Ref sig .tc := ⟨.hbm, 201, rfl⟩
abbrev main_v76 : Ref sig .tc := ⟨.hbm, 202, rfl⟩
abbrev main_v77 : Ref sig .tc := ⟨.hbm, 203, rfl⟩
abbrev main_v78 : Ref sig .tc := ⟨.hbm, 204, rfl⟩
abbrev main_v79 : Ref sig .tc := ⟨.hbm, 205, rfl⟩
abbrev main_v80 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_v86 : Ref sig .tc := ⟨.hbm, 212, rfl⟩
abbrev main_v87 : Ref sig .tc := ⟨.hbm, 213, rfl⟩

abbrev nD : Nat := 1
abbrev τ : Topo := Topo.v7x

variable {F : FTy → Type} [FloatOps F]
-- ==== Proof.Cnt.lean ====
module

public import proofs.«01_k».proof.Proof.Gen.KernelIdeal.Skeleton
public import Idealize.ShloMosaic.Lib.Tactic
public import Idealize.ShloMosaic.Lib.LaneScatter.Fold
public import Idealize.ShloMosaic.Lib.VecWindow
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word a chunk of 8000 index words holds at place `k`. -/
abbrev wordAt (X : Vec F S1x1x8000 .i32) (k : ℕ) : BitVec 32 := X (ix3 0 0 ⟨k % 8000, Nat.mod_lt _ (by decide)⟩)

/-- One edge counted: in row `t`, the column of the edge's relation goes up by one. -/
def cntStep (t rel : BitVec 32) (C : Vec F S10000x16 .f32) : Vec F S10000x16 .f32 :=
  fun y => if (y 0).val = t.toNat then k0_pay2 (F := F) rel (fun z => C (ix2 (y 0) (z 1))) (ix2 0 (y 1)) else C y

theorem chk0_of_lt (v : BitVec 32) (h : v.toNat < 10000) : k0_chk1 v := by
  unfold k0_chk1 k0_off2
  intro a
  fin_cases a
  · show v.toNat + 1 ≤ 10000
    omega
  · show 0 + 16 ≤ 16
    omega

theorem off0_eq (v : BitVec 32) : k0_off2 v = ![v.toNat, 0] := rfl

theorem trips0 : k0_t1_loop.trips = 8000 := by decide

theorem word_read0 {sp : Space} (M : Memref sig .tc sp S1x1x8000 .i32) (X : Vec F S1x1x8000 .i32) (k : Fin k0_t1_loop.trips)
    (p : 0 < S1x1x1.numel) :
    M.view.readAt (Elt F) (Rect.unit (s := S1x1x8000) (k0_off1 k) S1x1x1.size (k0_off1_inb k)).toLoadRect (M.view.rep X) (Shape.Idx.first p)
      = wordAt X k.val := by
  have hk : k.val % 8000 = k.val := Nat.mod_eq_of_lt (lt_of_lt_of_eq k.isLt trips0)
  rw [View.readAt_rep]
  refine congrArg X ?_
  funext a
  refine Fin.ext ?_
  show k0_off1 k a + 1 * (Shape.Idx.first p a).val = _
  rw [k0_off1_eq]
  have h0 : ∀ a, (Shape.Idx.first (s := S1x1x1) p a).val = 0 := fun a => by
    have := (Shape.Idx.first (s := S1x1x1) p a).isLt
    fin_cases a <;> simp_all
  rw [h0]
  fin_cases a
  · rfl
  · rfl
  · show k.val + 1 * 0 = k.val % 8000
    omega

theorem put_cnt (v : BitVec 32) (rel : BitVec 32) (C : Vec F S10000x16 .f32) (inb : ∀ a, (![v.toNat, 0] : Fin 2 → ℕ) a + S1x16.size a ≤ S10000x16.size a) :
    VecWindow.put (s := S10000x16) C ![v.toNat, 0] S1x16.size (k0_pay2 (F := F) rel (VecWindow.window C ![v.toNat, 0] S1x16.size inb)) = cntStep v rel C := by
  funext y
  idx_vars y
  by_cases h : y0.val = v.toNat
  · have e1 : (VecWindow.window C ![v.toNat, 0] S1x16.size inb : Vec F S1x16 .f32) = fun z => C (ix2 y0 (z 1)) := by
      funext z
      idx_vars z
      refine congrArg C (funext fun a => Fin.ext ?_)
      fin_cases a
      · show v.toNat + 1 * z0.val = y0.val
        omega
      · show 0 + 1 * z1.val = z1.val
        omega
    rw [e1]
    have hh : ∀ a, (![v.toNat, 0] : Fin 2 → ℕ) a ≤ ((ix2 y0 y1 : S10000x16.Idx) a).val ∧ ((ix2 y0 y1 : S10000x16.Idx) a).val < (![v.toNat, 0] : Fin 2 → ℕ) a + S1x16.size a := by
      intro a
      fin_cases a
      · show v.toNat ≤ y0.val ∧ y0.val < v.toNat + 1
        omega
      · show 0 ≤ y1.val ∧ y1.val < 0 + 16
        omega
    refine (dif_pos hh).trans (Eq.trans ?_ (if_pos (show ((ix2 y0 y1 : S10000x16.Idx) 0).val = v.toNat from h)).symm)
    refine congrArg (k0_pay2 (F := F) rel _) (funext fun a => Fin.ext ?_)
    fin_cases a
    · show y0.val - v.toNat = 0
      omega
    · show y1.val - 0 = y1.val
      omega
  · refine (dif_neg ?_).trans (if_neg (show ¬ ((ix2 y0 y1 : S10000x16.Idx) 0).val = v.toNat from h)).symm
    intro hh
    have := hh 0
    change v.toNat ≤ y0.val ∧ y0.val < v.toNat + 1 at this
    omega

/-- One trip of the counting loop, at definite contents. -/
theorem trip0 (𝒱 : Variants) (c : Dev nD) (bd : Option 𝒱.V) (E : Set ℕ) (i : grid0.Coords) (arg1 : Memref sig .tc .smem S1x1x8000 .i32) (harg1 : arg1.IsWhole)
    (arg2 : Memref sig .tc .smem S1x1x8000 .i32) (harg2 : arg2.IsWhole) (arg3 : Memref sig .tc .vmem S10000x16 .f32) (harg3 : arg3.IsWhole)
    (X1 X2 : Vec F S1x1x8000 .i32) (C : Vec F S10000x16 .f32) (k : Fin k0_t1_loop.trips) (hw : (wordAt X1 k.val).toNat < 10000) :
    (iprop((arg1.view.loc (c : Thread nD τ) ↦[arg1.view.set]{fullShare} arg1.view.rep X1) ∗ (arg2.view.loc (c : Thread nD τ) ↦[arg2.view.set]{fullShare} arg2.view.rep X2)
        ∗ (arg3.view.loc (c : Thread nD τ) ↦[arg3.view.set]{fullShare} arg3.view.rep C)) : sProp 𝕄)
      ⊢ wp frame (wpE (defs₀ (F := F)) 𝒱 (c : Thread nD τ) bd) E (k0_t1_body (F := F) i arg1 harg1 arg2 harg2 arg3 harg3 k ())
          (fun _ => iprop((arg1.view.loc (c : Thread nD τ) ↦[arg1.view.set]{fullShare} arg1.view.rep X1) ∗ (arg2.view.loc (c : Thread nD τ) ↦[arg2.view.set]{fullShare} arg2.view.rep X2)
            ∗ (arg3.view.loc (c : Thread nD τ) ↦[arg3.view.set]{fullShare} arg3.view.rep (cntStep (wordAt X1 k.val) (wordAt X2 k.val) C)))) := by
  have hchk : k0_chk1 (arg1.view.readAt (Elt F) (Rect.unit (s := S1x1x8000) (k0_off1 k) S1x1x1.size (k0_off1_inb k)).toLoadRect (arg1.view.rep X1) (Shape.Idx.first (numel1_S1x1x1.symm ▸ Nat.one_pos))) := by
    rw [word_read0 arg1 X1 k]
    exact chk0_of_lt _ hw
  unfold k0_t1_body
  iintro ⟨HR_arg1, HR_arg2, HW_arg3⟩
  sl_exec
  sl_step
  isplitl [HR_arg1]; · iexact HR_arg1
  isplitl [HR_arg2]; · iexact HR_arg2
  iapply (pointsTo_rep_of_read (c : Thread nD τ) arg3 _ _ _ ?_) $$ HW_arg3
  rw [View.read_writes_rep_unit _ _ _ _ rfl]
  have e1 : trip0.sl.r arg1 X1 k = wordAt X1 k.val := word_read0 arg1 X1 k _
  have e2 : trip0.sl.r_1 arg2 X2 k = wordAt X2 k.val := word_read0 arg2 X2 k _
  rw [View.readAt_rep_unit _ _ _ rfl (k0_off2_inb _ (e1 ▸ chk0_of_lt _ hw))]
  rw [e2]
  exact (put_cnt _ _ _ _).trans (congrArg (fun w => cntStep w _ C) e1)

/-- `n` steps of a family of steps, from `a`. -/
def runN {α : Type} (f : ℕ → α → α) (n : ℕ) (a : α) : α := Nat.rec a (fun k r => f k r) n

theorem runN_zero {α : Type} (f : ℕ → α → α) (a : α) : runN f 0 a = a := rfl

theorem runN_succ {α : Type} (f : ℕ → α → α) (n : ℕ) (a : α) : runN f (n + 1) a = f n (runN f n a) := rfl

attribute [irreducible] runN

/-- The counts after the first `n` edges of a chunk. -/
def cntRun (X1 X2 : Vec F S1x1x8000 .i32) : ℕ → Vec F S10000x16 .f32 → Vec F S10000x16 .f32 :=
  runN fun k => cntStep (wordAt X1 k) (wordAt X2 k)

/-- The whole counting loop at definite contents: it leaves the counts with the chunk's edges added. -/
theorem loop0 (𝒱 : Variants) (c : Dev nD) (bd : Option 𝒱.V) (E : Set ℕ) (i : grid0.Coords) (arg1 : Memref sig .tc .smem S1x1x8000 .i32) (harg1 : arg1.IsWhole)
    (arg2 : Memref sig .tc .smem S1x1x8000 .i32) (harg2 : arg2.IsWhole) (arg3 : Memref sig .tc .vmem S10000x16 .f32) (harg3 : arg3.IsWhole)
    (X1 X2 : Vec F S1x1x8000 .i32) (C : Vec F S10000x16 .f32) (hw : ∀ k, (wordAt X1 k).toNat < 10000) :
    (iprop((arg1.view.loc (c : Thread nD τ) ↦[arg1.view.set]{fullShare} arg1.view.rep X1) ∗ (arg2.view.loc (c : Thread nD τ) ↦[arg2.view.set]{fullShare} arg2.view.rep X2)
        ∗ (arg3.view.loc (c : Thread nD τ) ↦[arg3.view.set]{fullShare} arg3.view.rep C)) : sProp 𝕄)
      ⊢ wp frame (wpE (defs₀ (F := F)) 𝒱 (c : Thread nD τ) bd) E
          (Scf.Loop.for k0_t1_loop k0_t1_ok ⟨⟩ (k0_t1_body (F := F) i arg1 harg1 arg2 harg2 arg3 harg3))
          (fun _ => iprop((arg1.view.loc (c : Thread nD τ) ↦[arg1.view.set]{fullShare} arg1.view.rep X1) ∗ (arg2.view.loc (c : Thread nD τ) ↦[arg2.view.set]{fullShare} arg2.view.rep X2)
            ∗ (arg3.view.loc (c : Thread nD τ) ↦[arg3.view.set]{fullShare} arg3.view.rep (cntRun X1 X2 8000 C)))) := by
  have T := fun (k : Fin k0_t1_loop.trips) (D : Vec F S10000x16 .f32) =>
    trip0 (F := F) 𝒱 c bd E i arg1 harg1 arg2 harg2 arg3 harg3 X1 X2 D k (hw k.val)
  generalize k0_t1_body (F := F) i arg1 harg1 arg2 harg2 arg3 harg3 = B at T ⊢
  have h0 : cntRun X1 X2 0 C = C := runN_zero _ _
  have hs : ∀ n, cntRun X1 X2 (n + 1) C = cntStep (wordAt X1 n) (wordAt X2 n) (cntRun X1 X2 n C) := fun n => runN_succ _ _ _
  generalize cntRun X1 X2 = R at h0 hs ⊢
  rw [← trips0]
  iintro H
  iapply (Scf.wp_for frame (wpE (defs₀ (F := F)) 𝒱 (c : Thread nD τ) bd) E _ _ _ k0_t1_ok () B
    (fun n _ => iprop((arg1.view.loc (c : Thread nD τ) ↦[arg1.view.set]{fullShare} arg1.view.rep X1) ∗ (arg2.view.loc (c : Thread nD τ) ↦[arg2.view.set]{fullShare} arg2.view.rep X2)
            ∗ (arg3.view.loc (c : Thread nD τ) ↦[arg3.view.set]{fullShare} arg3.view.rep (R n C))))
    (fun k _ => by rw [hs]; exact T k _))
  isplitl [H]
  · rw [h0]
    iexact H
  · iintro %_ H
    iexact H

theorem body0_first (𝒱 : Variants) (c : Dev nD) (bd : Option 𝒱.V) (E : Set ℕ) (i : grid0.Coords) (hi : (i 0).val = 0) (arg1 : Memref sig .tc .smem S1x1x8000 .i32) (harg1 : arg1.IsWhole)
    (arg2 : Memref sig .tc .smem S1x1x8000 .i32) (harg2 : arg2.IsWhole) (arg3 : Memref sig .tc .vmem S10000x16 .f32) (harg3 : arg3.IsWhole)
    (X1 X2 : Vec F S1x1x8000 .i32) (hw : ∀ k, (wordAt X1 k).toNat < 10000) (f : BufTy.Contents (Elt F) arg3.view.ty) :
    (iprop((arg1.view.loc (c : Thread nD τ) ↦[arg1.view.set]{fullShare} arg1.view.rep X1) ∗ (arg2.view.loc (c : Thread nD τ) ↦[arg2.view.set]{fullShare} arg2.view.rep X2)
        ∗ (arg3.view.loc (c : Thread nD τ) ↦[arg3.view.set]{fullShare} f)) : sProp 𝕄)
      ⊢ wp frame (wpE (defs₀ (F := F)) 𝒱 (c : Thread nD τ) bd) E (cc0__cnt_body (F := F) i arg1 harg1 arg2 harg2 arg3 harg3)
          (fun _ => iprop((arg1.view.loc (c : Thread nD τ) ↦[arg1.view.set]{fullShare} arg1.view.rep X1) ∗ (arg2.view.loc (c : Thread nD τ) ↦[arg2.view.set]{fullShare} arg2.view.rep X2)
            ∗ (arg3.view.loc (c : Thread nD τ) ↦[arg3.view.set]{fullShare} arg3.view.rep (cntRun X1 X2 8000 (k0_pay1 (F := F)))))) := by
  have hi' : Scalar.cmpi .ne (Scalar.extui (Scalar.cmpi .eq (BitVec.ofNat 32 (i 0).val) 0#32) : BitVec 32) 0#32 = 1#1 := by rw [hi]; decide
  rw [cc0__cnt_body_eq_skeleton]
  unfold cc0__cnt_body_skel
  iintro ⟨HR_arg1, HR_arg2, HW_arg3⟩
  sl_exec
  iapply (LaneScatter.bind_of_run frame (wpE (defs₀ (F := F)) 𝒱 (c : Thread nD τ) bd) E
    (loop0 (F := F) 𝒱 c bd E i arg1 harg1 arg2 harg2 arg3 harg3 X1 X2 (k0_pay1 (F := F)) hw))
  isplitl [HR_arg1 HR_arg2 HW_arg3]
  · isplitl [HR_arg1]; · iexact HR_arg1
    isplitl [HR_arg2]; · iexact HR_arg2
    iapply (pointsTo_rep_of_read (c : Thread nD τ) arg3 _ _ _ ?_) $$ HW_arg3
    exact View.read_writes_full _ _ _ _ _
  · iintro ⟨HR_arg1, HR_arg2, HW_arg3⟩
    sl_step
    isplitl [HR_arg1]; · iexact HR_arg1
    isplitl [HR_arg2]; · iexact HR_arg2
    iexact HW_arg3

theorem body0_next (𝒱 : Variants) (c : Dev nD) (bd : Option 𝒱.V) (E : Set ℕ) (i : grid0.Coords) (hi : (i 0).val ≠ 0) (arg1 : Memref sig .tc .smem S1x1x8000 .i32) (harg1 : arg1.IsWhole)
    (arg2 : Memref sig .tc .smem S1x1x8000 .i32) (harg2 : arg2.IsWhole) (arg3 : Memref sig .tc .vmem S10000x16 .f32) (harg3 : arg3.IsWhole)
    (X1 X2 : Vec F S1x1x8000 .i32) (hw : ∀ k, (wordAt X1 k).toNat < 10000) (C : Vec F S10000x16 .f32) :
    (iprop((arg1.view.loc (c : Thread nD τ) ↦[arg1.view.set]{fullShare} arg1.view.rep X1) ∗ (arg2.view.loc (c : Thread nD τ) ↦[arg2.view.set]{fullShare} arg2.view.rep X2)
        ∗ (arg3.view.loc (c : Thread nD τ) ↦[arg3.view.set]{fullShare} arg3.view.rep C)) : sProp 𝕄)
      ⊢ wp frame (wpE (defs₀ (F := F)) 𝒱 (c : Thread nD τ) bd) E (cc0__cnt_body (F := F) i arg1 harg1 arg2 harg2 arg3 harg3)
          (fun _ => iprop((arg1.view.loc (c : Thread nD τ) ↦[arg1.view.set]{fullShare} arg1.view.rep X1) ∗ (arg2.view.loc (c : Thread nD τ) ↦[arg2.view.set]{fullShare} arg2.view.rep X2)
            ∗ (arg3.view.loc (c : Thread nD τ) ↦[arg3.view.set]{fullShare} arg3.view.rep (cntRun X1 X2 8000 C)))) := by
  have hi' : ¬ (Scalar.cmpi .ne (Scalar.extui (Scalar.cmpi .eq (BitVec.ofNat 32 (i 0).val) 0#32) : BitVec 32) 0#32 = 1#1) := by
    revert hi
    generalize (i 0) = j
    revert j
    decide
  rw [cc0__cnt_body_eq_skeleton]
  unfold cc0__cnt_body_skel
  iintro ⟨HR_arg1, HR_arg2, HW_arg3⟩
  sl_exec
  iapply (LaneScatter.bind_of_run frame (wpE (defs₀ (F := F)) 𝒱 (c : Thread nD τ) bd) E
    (loop0 (F := F) 𝒱 c bd E i arg1 harg1 arg2 harg2 arg3 harg3 X1 X2 C hw))
  isplitl [HR_arg1 HR_arg2 HW_arg3]
  · isplitl [HR_arg1]; · iexact HR_arg1
    isplitl [HR_arg2]; · iexact HR_arg2
    iexact HW_arg3
  · iintro ⟨HR_arg1, HR_arg2, HW_arg3⟩
    sl_step
    isplitl [HR_arg1]; · iexact HR_arg1
    isplitl [HR_arg2]; · iexact HR_arg2
    iexact HW_arg3

end Cert.KernelIdeal.Body
-- ==== Proof.Common.lean ====
/-
  What the five calls of the kernel share: the entry valuations, the blocks of index words a call's windows stage,
  and the passage between a staging buffer owned at contents and the representative the bodies' triples speak of.
-/
module

public import proofs.«01_k».proof.Proof.Cnt
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Frame
public import Idealize.ShloMosaic.Lib.Pipeline.FrameBody
public import Idealize.ShloMosaic.Lib.Pipeline.RegionArraysS

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-- One valuation of the buffers per core. -/
abbrev Vals (F : FTy → Type) : Type := (c : Dev nD) → Valuation τ sig (Elt F)

/-- What a valuation has in a buffer of the main core. -/
abbrev at_ (V : Vals F) (c : Dev nD) (r : Ref sig .tc) : Buf (Elt F) ((c : Thread nD τ).loc r) := V c (Proc.devRef .tc r)

abbrev 𝒱₀ : Variants := Variants.none

/-- Chunk `t` of an array of 40 chunks of index words. -/
def chunk (A : Vec F S40x1x8000 .i32) (t : ℕ) : Vec F S1x1x8000 .i32 :=
  fun y => A (ix3 ⟨t % 40, Nat.mod_lt _ (by decide)⟩ 0 (y 2))

theorem chunk_word (A : Vec F S40x1x8000 .i32) (b : ℕ) (h : ∀ y, (A y).toNat < b) (t k : ℕ) : (wordAt (chunk A t) k).toNat < b := h _

/-- The grid coordinate of point `t` of a grid of 40 points, as the index maps compute it, -/
theorem tick40 (t : Fin grid0.N) : (BitVec.ofNat 32 (grid0.coords t 0).val).toNat = t.val := by
  have := Pipeline.Grid.coords_val (G := grid0) t 0 (S := 1) (B := 40) (by decide) rfl
  have ht : t.val < 40 := t.isLt
  rw [BitVec.toNat_ofNat]
  omega

/-- and of a grid of 25. -/
theorem tick25 (t : Fin grid2.N) : (BitVec.ofNat 32 (grid2.coords t 0).val).toNat = t.val := by
  have := Pipeline.Grid.coords_val (G := grid2) t 0 (S := 1) (B := 25) (by decide) rfl
  have ht : t.val < 25 := t.isLt
  rw [BitVec.toNat_ofNat]
  omega

theorem tick40' (t : Fin grid0.N) : (grid0.coords t 0).val = t.val := by
  have := Pipeline.Grid.coords_val (G := grid0) t 0 (S := 1) (B := 40) (by decide) rfl
  have ht : t.val < 40 := t.isLt
  omega

/-- A memref owned at contents is held at their representative, -/
theorem owns_rep (c : Dev nD) {sp : Space} {s : Shape} {e : EltTy} (m : Memref sig .tc sp s e) (X : s.Idx → Elt F e) :
    (owns (c : Thread nD τ) m fullShare X : sProp 𝕄) ⊢ m.view.loc (c : Thread nD τ) ↦[m.view.set]{fullShare} m.view.rep X := by
  unfold owns
  iintro ⟨%f, %hf, H⟩
  iapply (pointsTo_rep_of_read (c : Thread nD τ) m f fullShare X hf)
  iexact H

/-- and back. -/
theorem rep_owns (c : Dev nD) {sp : Space} {s : Shape} {e : EltTy} (m : Memref sig .tc sp s e) (X : s.Idx → Elt F e) :
    (m.view.loc (c : Thread nD τ) ↦[m.view.set]{fullShare} m.view.rep X : sProp 𝕄) ⊢ owns (c : Thread nD τ) m fullShare X := by
  unfold owns
  iintro H
  iexists _
  isplitr; swap; · iexact H
  ipureintro
  exact View.read_rep _ _

end Cert.KernelIdeal.Body

end
-- ==== Proof.Region0.lean ====
/-
  The first call of the kernel, which counts the edges of every node and relation chunk by chunk: its proof data and
  its body obligation.
-/
module

public import proofs.«01_k».proof.Proof.Common

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-- The counts after `n` chunks of edges. -/
def cntAcc (A B : Vec F S40x1x8000 .i32) : ℕ → Vec F S10000x16 .f32 :=
  fun n => runN (fun t C => cntRun (chunk A t) (chunk B t) 8000 C) n (k0_pay1 (F := F))

variable (V : Vals F)

/-- The call's proof data from an entry valuation: the chunks as staged, the counts so far. -/
def dat0 (c : Dev nD) : Dat τ (Elt F) Unit ℕ (UR sig nD τ) ℕ cfg0 c where
  A w := at_ V c (Pipeline.arrRef spec0 w)
  after w t := match w with
    | ⟨0, _⟩ => chunk (at_ V c main_v5) t.val
    | ⟨1, _⟩ => chunk (at_ V c main_v6) t.val
    | ⟨2, _⟩ => cntAcc (at_ V c main_v5) (at_ V c main_v6) (t.val + 1)
  Φ _ := iprop(Pipeline.scopedRest (Ix := Unit) (Name := ℕ) (U := UR sig nD τ) (Lvl := ℕ) (Val := Elt F) spec0 c ∗ ∃ r, prngReg c r)
  q _ := fullShare
  owed _ := 0

theorem blk0_0 (c : Dev nD) (t : Fin cfg0.N) : (dat0 V c).blockOf 0 t = chunk (at_ V c main_v5) t.val := by
  funext y
  refine congrArg (at_ V c main_v5) ?_
  funext a
  refine Fin.ext ?_
  refine ((cfg0.win 0).rect_emb_val t y a).trans ?_
  have ht : t.val < 40 := t.isLt
  fin_cases a
  · show (BitVec.ofNat 32 (grid0.coords t 0).val).toNat * 1 + (y 0).val = t.val % 40
    rw [tick40]
    have h0 : (y 0).val < 1 := (y 0).isLt
    omega
  · show 0 * 1 + (y 1).val = 0
    have h0 : (y 1).val < 1 := (y 1).isLt
    omega
  · show 0 * 8000 + (y 2).val = (y 2).val
    omega

theorem blk0_1 (c : Dev nD) (t : Fin cfg0.N) : (dat0 V c).blockOf 1 t = chunk (at_ V c main_v6) t.val := by
  funext y
  refine congrArg (at_ V c main_v6) ?_
  funext a
  refine Fin.ext ?_
  refine ((cfg0.win 1).rect_emb_val t y a).trans ?_
  have ht : t.val < 40 := t.isLt
  fin_cases a
  · show (BitVec.ofNat 32 (grid0.coords t 0).val).toNat * 1 + (y 0).val = t.val % 40
    rw [tick40]
    have h0 : (y 0).val < 1 := (y 0).isLt
    omega
  · show 0 * 1 + (y 1).val = 0
    have h0 : (y 1).val < 1 := (y 1).isLt
    omega
  · show 0 * 8000 + (y 2).val = (y 2).val
    omega

theorem before0_0 (c : Dev nD) (t : Fin cfg0.N) (d) : (dat0 V c).before 0 t d = chunk (at_ V c main_v5) t.val :=
  ((dat0 V c).before_fetched 0 t (fetch0_0 t) d).trans (blk0_0 V c t)

theorem before0_1 (c : Dev nD) (t : Fin cfg0.N) (d) : (dat0 V c).before 1 t d = chunk (at_ V c main_v6) t.val :=
  ((dat0 V c).before_fetched 1 t (fetch0_1 t) d).trans (blk0_1 V c t)

theorem before0_2 (c : Dev nD) (t : Fin cfg0.N) (ht : t.val ≠ 0) (d) :
    (dat0 V c).before 2 t d = cntAcc (at_ V c main_v5) (at_ V c main_v6) t.val := by
  refine ((dat0 V c).before_out_kept 2 rfl t ht ?_ (fun _ => rfl) (fun _ _ => rfl) d).trans ?_
  · refine Bool.eq_false_iff.mpr fun h => ?_
    have h1 := (flush0_2 _).mp h
    have ht : t.val < 40 := t.isLt
    have h2 : (t.val - 1) % 40 = 39 := h1
    omega
  · show cntAcc _ _ (t.val - 1 + 1) = _
    rw [Nat.sub_add_cancel (Nat.pos_of_ne_zero ht)]

theorem body_obligation0 (c : Dev nD) (hd : ∀ y : S40x1x8000.Idx, (at_ V c main_v5 y).toNat < 10000) :
    BodyObligation (dat0 V c) (defs₀ (F := F)) 𝒱₀ () Set.univ := fun t => by
  rw [bigSep_W0, bigSep_W0]
  rw [show (dat0 V c).Φ t.succ = (dat0 V c).Φ t.castSucc from rfl,
    show (dat0 V c).owesAt () t.succ = (dat0 V c).owesAt () t.castSucc from rfl]
  have hco : (grid0.coords t 0).val = t.val := tick40' t
  have hs : cntAcc (at_ V c main_v5) (at_ V c main_v6) (t.val + 1)
      = cntRun (chunk (at_ V c main_v5) t.val) (chunk (at_ V c main_v6) t.val) 8000 (cntAcc (at_ V c main_v5) (at_ V c main_v6) t.val) := runN_succ _ _ _
  by_cases h0 : t.val = 0
  · have hs0 : cntAcc (at_ V c main_v5) (at_ V c main_v6) t.val = k0_pay1 := by rw [h0]; exact runN_zero _ _
    rw [hs0] at hs
    iintro ⟨HΦ, Howes, ⟨%d0, H0⟩, ⟨%d1, H1⟩, ⟨%d2, H2⟩⟩
    rw [before0_0, before0_1]
    ihave H2 := (owns_rep c (st0_2 t) _) $$ H2
    ihave H0 := (owns_rep c (st0_0 t) _) $$ H0
    ihave H1 := (owns_rep c (st0_1 t) _) $$ H1
    iapply (wp_wand_r _ _ _)
    isplitr [HΦ Howes]
    · iapply (body0_first 𝒱₀ c none Set.univ (grid0.coords t) (hco.trans h0) (st0_0 t) (hstage0_0 _) (st0_1 t) (hstage0_1 _) (st0_2 t) (hstage0_2 _)
        (chunk (at_ V c main_v5) t.val) (chunk (at_ V c main_v6) t.val) (chunk_word _ _ hd t.val) _)
      isplitl [H0]; · iexact H0
      isplitl [H1]; · iexact H1
      iexact H2
    iintro %_ ⟨H0, H1, H2⟩
    isplitl [HΦ]; · iexact HΦ
    isplitl [Howes]; · iexact Howes
    isplitl [H0]; · iapply (rep_owns c (st0_0 t) _) $$ H0
    isplitl [H1]; · iapply (rep_owns c (st0_1 t) _) $$ H1
    rw [← hs]
    iapply (rep_owns c (st0_2 t) _) $$ H2
  · iintro ⟨HΦ, Howes, ⟨%d0, H0⟩, ⟨%d1, H1⟩, ⟨%d2, H2⟩⟩
    rw [before0_0, before0_1, before0_2 V c t h0]
    ihave H0 := (owns_rep c (st0_0 t) _) $$ H0
    ihave H1 := (owns_rep c (st0_1 t) _) $$ H1
    ihave H2 := (owns_rep c (st0_2 t) _) $$ H2
    iapply (wp_wand_r _ _ _)
    isplitr [HΦ Howes]
    · iapply (body0_next 𝒱₀ c none Set.univ (grid0.coords t) (fun h => h0 (hco.symm.trans h)) (st0_0 t) (hstage0_0 _) (st0_1 t) (hstage0_1 _) (st0_2 t) (hstage0_2 _)
        (chunk (at_ V c main_v5) t.val) (chunk (at_ V c main_v6) t.val) (chunk_word _ _ hd t.val) (cntAcc (at_ V c main_v5) (at_ V c main_v6) t.val))
      isplitl [H0]; · iexact H0
      isplitl [H1]; · iexact H1
      iexact H2
    iintro %_ ⟨H0, H1, H2⟩
    isplitl [HΦ]; · iexact HΦ
    isplitl [Howes]; · iexact Howes
    isplitl [H0]; · iapply (rep_owns c (st0_0 t) _) $$ H0
    isplitl [H1]; · iapply (rep_owns c (st0_1 t) _) $$ H1
    rw [← hs]
    iapply (rep_owns c (st0_2 t) _) $$ H2

end Cert.KernelIdeal.Body

end
-- ==== Proof.Acc.lean ====
module

public import proofs.«01_k».proof.Proof.Gen.KernelIdeal.Skeleton
public import Idealize.ShloMosaic.Lib.Tactic
public import Idealize.ShloMosaic.Lib.LaneScatter.Fold
public import Idealize.ShloMosaic.Lib.VecWindow
public import Idealize.ShloMosaic.Lib.Pointwise
public import proofs.«01_k».proof.Proof.Cnt

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the accumulating body holds besides its result: its six operands at definite contents. -/
abbrev opsA (c : Dev nD) (arg1 arg2 arg3 : Memref sig .tc .smem S1x1x8000 .i32) (arg4 : Memref sig .tc .smem S16x4 .f32)
    (arg5 : Memref sig .tc .vmem S10000x128 .f32) (arg6 : Memref sig .tc .vmem S10000x16 .f32)
    (X1 X2 X3 : Vec F S1x1x8000 .i32) (X4 : Vec F S16x4 .f32) (X5 : Vec F S10000x128 .f32) (X6 : Vec F S10000x16 .f32) : sProp (MT nD τ sig Unit (Elt F) ℕ (UR sig nD τ) ℕ) :=
  iprop((arg1.view.loc (c : Thread nD τ) ↦[arg1.view.set]{fullShare} arg1.view.rep X1) ∗ (arg2.view.loc (c : Thread nD τ) ↦[arg2.view.set]{fullShare} arg2.view.rep X2)
    ∗ (arg3.view.loc (c : Thread nD τ) ↦[arg3.view.set]{fullShare} arg3.view.rep X3) ∗ (arg4.view.loc (c : Thread nD τ) ↦[arg4.view.set]{fullShare} arg4.view.rep X4)
    ∗ (arg5.view.loc (c : Thread nD τ) ↦[arg5.view.set]{fullShare} arg5.view.rep X5) ∗ (arg6.view.loc (c : Thread nD τ) ↦[arg6.view.set]{fullShare} arg6.view.rep X6))

local notation "𝕄" => MT nD τ sig Unit (Elt F) ℕ (UR sig nD τ) ℕ

/-- Vector of the sixteen relation numbers. -/
abbrev lanes : IVec S1x16 32 := iota .tc S1x16 32 [1] iota_S1x16_d1_w32

/-- A node's row of counts. -/
def cntRow (X : Vec F S10000x16 .f32) (d : Fin 10000) : Vec F S1x16 .f32 := fun z => X (ix2 d (z 1))

/-- A node's row of features. -/
def xRow (X : Vec F S10000x128 .f32) (d : Fin 10000) : Vec F S1x128 .f32 := fun z => X (ix2 d (z 1))

/-- One edge added to the accumulators: in every base's row `d`, the source's row times the relation's coefficient for the base and
    times one over the number of the edge's kind. -/
def accStep (s d r : BitVec 32) (X4 : Vec F S16x4 .f32) (X5 : Vec F S10000x128 .f32) (X6 : Vec F S10000x16 .f32) (A : Vec F S4x10000x128 .f32) :
    Vec F S4x10000x128 .f32 :=
  fun y => if (y 1).val = d.toNat then
    k1_pay2 (F := F) (k1_pay5 lanes r (cntRow X6 (y 1))) (xRow X5 ⟨s.toNat % 10000, Nat.mod_lt _ (by decide)⟩)
      (X4 (ix2 ⟨r.toNat % 16, Nat.mod_lt _ (by decide)⟩ (y 0))) (fun z => A (ix3 (y 0) (y 1) (z 2))) (ix3 0 0 (y 2))
    else A y

theorem trips1 : k1_t1_loop.trips = 8000 := by decide

theorem word_read1 {sp : Space} (M : Memref sig .tc sp S1x1x8000 .i32) (X : Vec F S1x1x8000 .i32) (k : Fin k1_t1_loop.trips)
    (p : 0 < S1x1x1.numel) :
    M.view.readAt (Elt F) (Rect.unit (s := S1x1x8000) (k1_off1 k) S1x1x1.size (k1_off1_inb k)).toLoadRect (M.view.rep X) (Shape.Idx.first p)
      = wordAt X k.val := word_read0 M X k p

theorem chk1_2_of_lt (v : BitVec 32) (h : v.toNat < 10000) : k1_chk2 v := by
  intro a
  fin_cases a
  · show v.toNat + 1 ≤ 10000
    omega
  · show 0 + 128 ≤ 128
    omega

theorem chk1_1_of_lt (v : BitVec 32) (h : v.toNat < 10000) : k1_chk1 v := by
  refine ⟨fun a => ?_, fun a => ?_, fun a => ?_, fun a => ?_, fun a => ?_⟩
  · exact chk0_of_lt v h a
  all_goals
    fin_cases a
    · first
        | exact (by decide : 0 + 1 ≤ 4)
        | exact (by decide : 1 + 1 ≤ 4)
        | exact (by decide : 2 + 1 ≤ 4)
        | exact (by decide : 3 + 1 ≤ 4)
    · show v.toNat + 1 ≤ 10000
      omega
    · show 0 + 128 ≤ 128
      omega

theorem chk1_3_of_lt (v : BitVec 32) (h : v.toNat < 16) : k1_chk3 v := by
  refine ⟨fun a => ?_, fun a => ?_, fun a => ?_, fun a => ?_⟩
  all_goals
    fin_cases a
    · show v.toNat + 1 ≤ 16
      omega
    · first
        | exact (by decide : 0 + 1 ≤ 4)
        | exact (by decide : 1 + 1 ≤ 4)
        | exact (by decide : 2 + 1 ≤ 4)
        | exact (by decide : 3 + 1 ≤ 4)

/-- A row of an accumulator: base `b`, node `d`. -/
abbrev rowAt (A : Vec F S4x10000x128 .f32) (b : Fin 4) (d : Fin 10000) : Vec F S1x1x128 .f32 := fun z => A (ix3 b d (z 2))

theorem window_row (A : Vec F S4x10000x128 .f32) (b : Fin 4) (d : ℕ) (hd : d < 10000) (inb : ∀ a, (![b.val, d, 0] : Fin 3 → ℕ) a + S1x1x128.size a ≤ S4x10000x128.size a) :
    (VecWindow.window A ![b.val, d, 0] S1x1x128.size inb : Vec F S1x1x128 .f32) = rowAt A b ⟨d, hd⟩ := by
  funext z
  idx_vars z
  refine congrArg A (funext fun a => Fin.ext ?_)
  fin_cases a
  · show b.val + 1 * z0.val = b.val
    omega
  · show d + 1 * z1.val = d
    omega
  · show 0 + 1 * z2.val = z2.val
    omega

theorem put_row (A : Vec F S4x10000x128 .f32) (b : Fin 4) (d : ℕ) (p : Vec F S1x1x128 .f32) (y0 : Fin 4) (y1 : Fin 10000) (y2 : Fin 128) :
    (VecWindow.put (s := S4x10000x128) A ![b.val, d, 0] S1x1x128.size p : Vec F S4x10000x128 .f32) (ix3 y0 y1 y2)
      = if y0 = b ∧ y1.val = d then p (ix3 0 0 y2) else A (ix3 y0 y1 y2) := by
  by_cases h : y0 = b ∧ y1.val = d
  · have hh : ∀ a, (![b.val, d, 0] : Fin 3 → ℕ) a ≤ ((ix3 y0 y1 y2 : S4x10000x128.Idx) a).val
        ∧ ((ix3 y0 y1 y2 : S4x10000x128.Idx) a).val < (![b.val, d, 0] : Fin 3 → ℕ) a + S1x1x128.size a := by
      obtain ⟨h0, h1⟩ := h
      subst h0
      intro a
      fin_cases a
      · show y0.val ≤ y0.val ∧ y0.val < y0.val + 1
        omega
      · show d ≤ y1.val ∧ y1.val < d + 1
        omega
      · show 0 ≤ y2.val ∧ y2.val < 0 + 128
        omega
    refine (dif_pos hh).trans (Eq.trans ?_ (if_pos h).symm)
    refine congrArg p (funext fun a => Fin.ext ?_)
    obtain ⟨h0, h1⟩ := h
    subst h0
    fin_cases a
    · show y0.val - y0.val = 0
      omega
    · show y1.val - d = 0
      omega
    · show y2.val - 0 = y2.val
      omega
  · refine (dif_neg ?_).trans (if_neg h).symm
    intro hh
    have a0 := hh 0
    have a1 := hh 1
    change b.val ≤ y0.val ∧ y0.val < b.val + 1 at a0
    change d ≤ y1.val ∧ y1.val < d + 1 at a1
    exact h ⟨Fin.ext (by omega), by omega⟩

/-- Four rows of one node, one per base, each stored as a function of the row it replaces. -/
theorem four_rows {sp : Space} (v : View sig .tc sp S4x10000x128 .f32) (A : Vec F S4x10000x128 .f32) (d : BitVec 32) (hd : d.toNat < 10000)
    (i0 : ∀ a, (k1_off5 d) a + S1x1x128.size a ≤ S4x10000x128.size a) (i1 : ∀ a, (k1_off7 d) a + S1x1x128.size a ≤ S4x10000x128.size a)
    (i2 : ∀ a, (k1_off9 d) a + S1x1x128.size a ≤ S4x10000x128.size a) (i3 : ∀ a, (k1_off11 d) a + S1x1x128.size a ≤ S4x10000x128.size a)
    (P0 P1 P2 P3 : Vec F S1x1x128 .f32 → Vec F S1x1x128 .f32) (y0 : Fin 4) (y1 : Fin 10000) (y2 : Fin 128) :
    let q0 : View.Piece (Elt F) S4x10000x128 .f32 := ⟨Rect.unit (s := S4x10000x128) (k1_off5 d) S1x1x128.size i0, P0 (v.readAt (Elt F) (Rect.unit (s := S4x10000x128) (k1_off5 d) S1x1x128.size i0).toLoadRect (v.rep A))⟩
    let q1 : View.Piece (Elt F) S4x10000x128 .f32 := ⟨Rect.unit (s := S4x10000x128) (k1_off7 d) S1x1x128.size i1, P1 (v.readAt (Elt F) (Rect.unit (s := S4x10000x128) (k1_off7 d) S1x1x128.size i1).toLoadRect (v.writes (Elt F) (v.rep A) [q0]))⟩
    let q2 : View.Piece (Elt F) S4x10000x128 .f32 := ⟨Rect.unit (s := S4x10000x128) (k1_off9 d) S1x1x128.size i2, P2 (v.readAt (Elt F) (Rect.unit (s := S4x10000x128) (k1_off9 d) S1x1x128.size i2).toLoadRect (v.writes (Elt F) (v.rep A) [q1, q0]))⟩
    let q3 : View.Piece (Elt F) S4x10000x128 .f32 := ⟨Rect.unit (s := S4x10000x128) (k1_off11 d) S1x1x128.size i3, P3 (v.readAt (Elt F) (Rect.unit (s := S4x10000x128) (k1_off11 d) S1x1x128.size i3).toLoadRect (v.writes (Elt F) (v.rep A) [q2, q1, q0]))⟩
    v.read (Elt F) (v.writes (Elt F) (v.rep A) [q3, q2, q1, q0]) (ix3 y0 y1 y2)
      = if y1.val = d.toNat then (![P0, P1, P2, P3] y0) (rowAt A y0 y1) (ix3 0 0 y2) else A (ix3 y0 y1 y2) := by
  intro q0 q1 q2 q3
  have e0 := View.read_writes_rep_unit v A (off' := ![(0 : Fin 4).val, d.toNat, 0]) i0 q0.2 rfl
  have e1 := View.read_writes_cons_put v (v.rep A) (off' := ![(1 : Fin 4).val, d.toNat, 0]) i1 q1.2 [q0] rfl
  have e2 := View.read_writes_cons_put v (v.rep A) (off' := ![(2 : Fin 4).val, d.toNat, 0]) i2 q2.2 [q1, q0] rfl
  have e3 := View.read_writes_cons_put v (v.rep A) (off' := ![(3 : Fin 4).val, d.toNat, 0]) i3 q3.2 [q2, q1, q0] rfl
  have w0 : q0.2 = P0 (rowAt A 0 ⟨d.toNat, hd⟩) := congrArg P0 ((View.readAt_rep_unit v A i0 (off' := ![(0 : Fin 4).val, d.toNat, 0]) rfl i0).trans (window_row A 0 _ hd i0))
  have w1 : q1.2 = P1 (rowAt (v.read (Elt F) (v.writes (Elt F) (v.rep A) [q0])) 1 ⟨d.toNat, hd⟩) :=
    congrArg P1 ((View.readAt_unit v _ i1 (off' := ![(1 : Fin 4).val, d.toNat, 0]) rfl i1).trans (window_row _ 1 _ hd i1))
  have w2 : q2.2 = P2 (rowAt (v.read (Elt F) (v.writes (Elt F) (v.rep A) [q1, q0])) 2 ⟨d.toNat, hd⟩) :=
    congrArg P2 ((View.readAt_unit v _ i2 (off' := ![(2 : Fin 4).val, d.toNat, 0]) rfl i2).trans (window_row _ 2 _ hd i2))
  have w3 : q3.2 = P3 (rowAt (v.read (Elt F) (v.writes (Elt F) (v.rep A) [q2, q1, q0])) 3 ⟨d.toNat, hd⟩) :=
    congrArg P3 ((View.readAt_unit v _ i3 (off' := ![(3 : Fin 4).val, d.toNat, 0]) rfl i3).trans (window_row _ 3 _ hd i3))
  have f0 : ∀ y0 y1 y2, (v.read (Elt F) (v.writes (Elt F) (v.rep A) [q0]) : Vec F S4x10000x128 .f32) (ix3 y0 y1 y2) = _ := fun y0 y1 y2 => (congrFun e0 _).trans (put_row _ 0 _ _ y0 y1 y2)
  have f1 : ∀ y0 y1 y2, (v.read (Elt F) (v.writes (Elt F) (v.rep A) [q1, q0]) : Vec F S4x10000x128 .f32) (ix3 y0 y1 y2) = _ := fun y0 y1 y2 => (congrFun e1 _).trans (put_row _ 1 _ _ y0 y1 y2)
  have f2 : ∀ y0 y1 y2, (v.read (Elt F) (v.writes (Elt F) (v.rep A) [q2, q1, q0]) : Vec F S4x10000x128 .f32) (ix3 y0 y1 y2) = _ := fun y0 y1 y2 => (congrFun e2 _).trans (put_row _ 2 _ _ y0 y1 y2)
  have f3 : ∀ y0 y1 y2, (v.read (Elt F) (v.writes (Elt F) (v.rep A) [q3, q2, q1, q0]) : Vec F S4x10000x128 .f32) (ix3 y0 y1 y2) = _ := fun y0 y1 y2 => (congrFun e3 _).trans (put_row _ 3 _ _ y0 y1 y2)
  have r1 : rowAt (v.read (Elt F) (v.writes (Elt F) (v.rep A) [q0])) 1 ⟨d.toNat, hd⟩ = rowAt A 1 ⟨d.toNat, hd⟩ := by
    funext z
    exact (f0 _ _ _).trans (if_neg fun h => by simp at h)
  have r2 : rowAt (v.read (Elt F) (v.writes (Elt F) (v.rep A) [q1, q0])) 2 ⟨d.toNat, hd⟩ = rowAt A 2 ⟨d.toNat, hd⟩ := by
    funext z
    exact ((f1 _ _ _).trans (if_neg fun h => by simp at h)).trans ((f0 _ _ _).trans (if_neg fun h => by simp at h))
  have r3 : rowAt (v.read (Elt F) (v.writes (Elt F) (v.rep A) [q2, q1, q0])) 3 ⟨d.toNat, hd⟩ = rowAt A 3 ⟨d.toNat, hd⟩ := by
    funext z
    exact ((f2 _ _ _).trans (if_neg fun h => by simp at h)).trans (((f1 _ _ _).trans (if_neg fun h => by simp at h)).trans ((f0 _ _ _).trans (if_neg fun h => by simp at h)))
  rw [r1] at w1
  rw [r2] at w2
  rw [r3] at w3
  rw [f3, f2, f1, f0, w0, w1, w2, w3]
  by_cases h : y1.val = d.toNat
  · have hy : y1 = ⟨d.toNat, hd⟩ := Fin.ext h
    subst hy
    fin_cases y0 <;> simp
  · simp [h]

theorem cnt_read (M : Memref sig .tc .vmem S10000x16 .f32) (X : Vec F S10000x16 .f32) (d : BitVec 32) (hd : d.toNat < 10000) (off : Fin 2 → ℕ)
    (inb : ∀ a, off a + S1x16.size a ≤ S10000x16.size a) (ho : off = ![d.toNat, 0]) :
    (M.view.readAt (Elt F) (Rect.unit (s := S10000x16) off S1x16.size inb).toLoadRect (M.view.rep X) : Vec F S1x16 .f32)
      = cntRow X ⟨d.toNat % 10000, Nat.mod_lt _ (by decide)⟩ := by
  subst ho
  funext z
  idx_vars z
  rw [View.readAt_rep]
  refine congrArg X (funext fun a => Fin.ext ?_)
  fin_cases a
  · show d.toNat + 1 * z0.val = d.toNat % 10000
    rw [Nat.mod_eq_of_lt hd]
    omega
  · show 0 + 1 * z1.val = z1.val
    omega

theorem x_read (M : Memref sig .tc .vmem S10000x128 .f32) (X : Vec F S10000x128 .f32) (d : BitVec 32) (hd : d.toNat < 10000) (off : Fin 2 → ℕ)
    (inb : ∀ a, off a + S1x128.size a ≤ S10000x128.size a) (ho : off = ![d.toNat, 0]) :
    (M.view.readAt (Elt F) (Rect.unit (s := S10000x128) off S1x128.size inb).toLoadRect (M.view.rep X) : Vec F S1x128 .f32)
      = xRow X ⟨d.toNat % 10000, Nat.mod_lt _ (by decide)⟩ := by
  subst ho
  funext z
  idx_vars z
  rw [View.readAt_rep]
  refine congrArg X (funext fun a => Fin.ext ?_)
  fin_cases a
  · show d.toNat + 1 * z0.val = d.toNat % 10000
    rw [Nat.mod_eq_of_lt hd]
    omega
  · show 0 + 1 * z1.val = z1.val
    omega

theorem coef_idx (r : BitVec 32) (hr : r.toNat < 16) (b : Fin 4) (off : Fin 2 → ℕ) (inb : ∀ a, off a + S1x1.size a ≤ S16x4.size a) (ho : off = ![r.toNat, b.val])
    (p : 0 < S1x1.numel) :
    (Rect.unit (s := S16x4) off S1x1.size inb).toLoadRect.idx (Shape.Idx.first p) = (ix2 ⟨r.toNat % 16, Nat.mod_lt _ (by decide)⟩ b : S16x4.Idx) := by
  subst ho
  have h0 : ∀ a, (Shape.Idx.first (s := S1x1) p a).val = 0 := fun a => by
    have := (Shape.Idx.first (s := S1x1) p a).isLt
    fin_cases a <;> exact Nat.lt_one_iff.1 this
  refine funext fun a => Fin.ext ?_
  fin_cases a
  · show r.toNat + 1 * (Shape.Idx.first (s := S1x1) p 0).val = r.toNat % 16
    rw [h0, Nat.mod_eq_of_lt hr]
    omega
  · show b.val + 1 * (Shape.Idx.first (s := S1x1) p 1).val = b.val
    rw [h0]
    omega

theorem coef_read (M : Memref sig .tc .smem S16x4 .f32) (X : Vec F S16x4 .f32) (r : BitVec 32) (hr : r.toNat < 16) (b : Fin 4) (off : Fin 2 → ℕ)
    (inb : ∀ a, off a + S1x1.size a ≤ S16x4.size a) (ho : off = ![r.toNat, b.val]) (p : 0 < S1x1.numel) :
    M.view.readAt (Elt F) (Rect.unit (s := S16x4) off S1x1.size inb).toLoadRect (M.view.rep X) (Shape.Idx.first p)
      = X (ix2 ⟨r.toNat % 16, Nat.mod_lt _ (by decide)⟩ b) := by
  rw [View.readAt_rep]
  exact congrArg X (coef_idx r hr b off inb ho p)

theorem trip1 (𝒱 : Variants) (c : Dev nD) (bd : Option 𝒱.V) (E : Set ℕ) (i : grid1.Coords) (arg1 : Memref sig .tc .smem S1x1x8000 .i32) (harg1 : arg1.IsWhole)
    (arg2 : Memref sig .tc .smem S1x1x8000 .i32) (harg2 : arg2.IsWhole) (arg3 : Memref sig .tc .smem S1x1x8000 .i32) (harg3 : arg3.IsWhole)
    (arg4 : Memref sig .tc .smem S16x4 .f32) (harg4 : arg4.IsWhole) (arg5 : Memref sig .tc .vmem S10000x128 .f32) (harg5 : arg5.IsWhole)
    (arg6 : Memref sig .tc .vmem S10000x16 .f32) (harg6 : arg6.IsWhole) (arg7 : Memref sig .tc .vmem S4x10000x128 .f32) (harg7 : arg7.IsWhole)
    (X1 X2 X3 : Vec F S1x1x8000 .i32) (X4 : Vec F S16x4 .f32) (X5 : Vec F S10000x128 .f32) (X6 : Vec F S10000x16 .f32) (A : Vec F S4x10000x128 .f32)
    (k : Fin k1_t1_loop.trips) (hs : (wordAt X1 k.val).toNat < 10000) (hd : (wordAt X2 k.val).toNat < 10000) (hr : (wordAt X3 k.val).toNat < 16) :
    (iprop(opsA c arg1 arg2 arg3 arg4 arg5 arg6 X1 X2 X3 X4 X5 X6 ∗ (arg7.view.loc (c : Thread nD τ) ↦[arg7.view.set]{fullShare} arg7.view.rep A)) : sProp 𝕄)
      ⊢ wp frame (wpE (defs₀ (F := F)) 𝒱 (c : Thread nD τ) bd) E (k1_t1_body (F := F) i arg1 harg1 arg2 harg2 arg3 harg3 arg4 harg4 arg5 harg5 arg6 harg6 arg7 harg7 lanes k ())
          (fun _ => iprop(opsA c arg1 arg2 arg3 arg4 arg5 arg6 X1 X2 X3 X4 X5 X6
            ∗ (arg7.view.loc (c : Thread nD τ) ↦[arg7.view.set]{fullShare} arg7.view.rep (accStep (wordAt X1 k.val) (wordAt X2 k.val) (wordAt X3 k.val) X4 X5 X6 A)))) := by
  have hchk2 : k1_chk2 (arg1.view.readAt (Elt F) (Rect.unit (s := S1x1x8000) (k1_off1 k) S1x1x1.size (k1_off1_inb k)).toLoadRect (arg1.view.rep X1) (Shape.Idx.first (numel1_S1x1x1.symm ▸ Nat.one_pos))) := by
    rw [word_read1 arg1 X1 k]
    exact chk1_2_of_lt _ hs
  have hchk1 : k1_chk1 (arg2.view.readAt (Elt F) (Rect.unit (s := S1x1x8000) (k1_off1 k) S1x1x1.size (k1_off1_inb k)).toLoadRect (arg2.view.rep X2) (Shape.Idx.first (numel1_S1x1x1.symm ▸ Nat.one_pos))) := by
    rw [word_read1 arg2 X2 k]
    exact chk1_1_of_lt _ hd
  have hchk3 : k1_chk3 (arg3.view.readAt (Elt F) (Rect.unit (s := S1x1x8000) (k1_off1 k) S1x1x1.size (k1_off1_inb k)).toLoadRect (arg3.view.rep X3) (Shape.Idx.first (numel1_S1x1x1.symm ▸ Nat.one_pos))) := by
    rw [word_read1 arg3 X3 k]
    exact chk1_3_of_lt _ hr
  unfold k1_t1_body
  rw [k1_part1_eq_skeleton]
  unfold k1_part1_skel
  iintro ⟨⟨HR_arg1, HR_arg2, HR_arg3, HR_arg4, HR_arg5, HR_arg6⟩, HW_arg7⟩
  sl_exec
  sl_step
  isplitr [HW_arg7]
  · isplitl [HR_arg1]; · iexact HR_arg1
    isplitl [HR_arg2]; · iexact HR_arg2
    isplitl [HR_arg3]; · iexact HR_arg3
    isplitl [HR_arg4]; · iexact HR_arg4
    isplitl [HR_arg5]; · iexact HR_arg5
    iexact HR_arg6
  iapply (pointsTo_rep_of_read (c : Thread nD τ) arg7 _ _ _ ?_) $$ HW_arg7
  sl_unfold_run_names
  funext y
  idx_vars y
  refine (four_rows arg7.view A _ ?_ _ _ _ _ _ _ _ _ _ _ _).trans ?_
  · rw [word_read1]; exact hd
  rw [cnt_read _ _ (wordAt X2 k.val) hd (k1_off2 _) _ (by rw [word_read1]; rfl), x_read _ _ (wordAt X1 k.val) hs (k1_off3 _) _ (by rw [word_read1]; rfl),
    coef_read _ _ (wordAt X3 k.val) hr 0 (k1_off4 _) _ (by rw [word_read1]; rfl), coef_read _ _ (wordAt X3 k.val) hr 1 (k1_off6 _) _ (by rw [word_read1]; rfl),
    coef_read _ _ (wordAt X3 k.val) hr 2 (k1_off8 _) _ (by rw [word_read1]; rfl), coef_read _ _ (wordAt X3 k.val) hr 3 (k1_off10 _) _ (by rw [word_read1]; rfl)]
  rw [word_read1, word_read1]
  have ey : y1.val = (wordAt X2 k.val).toNat → (⟨(wordAt X2 k.val).toNat % 10000, Nat.mod_lt _ (by decide)⟩ : Fin 10000) = y1 :=
    fun h => Fin.ext ((Nat.mod_eq_of_lt hd).trans h.symm)
  by_cases h : y1.val = (wordAt X2 k.val).toNat
  · refine (if_pos h).trans (Eq.trans ?_ (if_pos (show ((ix3 y0 y1 y2 : S4x10000x128.Idx) 1).val = _ from h)).symm)
    rw [ey h]
    fin_cases y0 <;> rfl
  · exact (if_neg h).trans (if_neg (show ¬ ((ix3 y0 y1 y2 : S4x10000x128.Idx) 1).val = _ from h)).symm

/-- The accumulators after the first `n` edges of a chunk. -/
def accRun (X1 X2 X3 : Vec F S1x1x8000 .i32) (X4 : Vec F S16x4 .f32) (X5 : Vec F S10000x128 .f32) (X6 : Vec F S10000x16 .f32) : ℕ → Vec F S4x10000x128 .f32 → Vec F S4x10000x128 .f32 :=
  runN fun k => accStep (wordAt X1 k) (wordAt X2 k) (wordAt X3 k) X4 X5 X6

/-- The whole accumulating loop at definite contents. -/
theorem loop1 (𝒱 : Variants) (c : Dev nD) (bd : Option 𝒱.V) (E : Set ℕ) (i : grid1.Coords) (arg1 : Memref sig .tc .smem S1x1x8000 .i32) (harg1 : arg1.IsWhole)
    (arg2 : Memref sig .tc .smem S1x1x8000 .i32) (harg2 : arg2.IsWhole) (arg3 : Memref sig .tc .smem S1x1x8000 .i32) (harg3 : arg3.IsWhole)
    (arg4 : Memref sig .tc .smem S16x4 .f32) (harg4 : arg4.IsWhole) (arg5 : Memref sig .tc .vmem S10000x128 .f32) (harg5 : arg5.IsWhole)
    (arg6 : Memref sig .tc .vmem S10000x16 .f32) (harg6 : arg6.IsWhole) (arg7 : Memref sig .tc .vmem S4x10000x128 .f32) (harg7 : arg7.IsWhole)
    (X1 X2 X3 : Vec F S1x1x8000 .i32) (X4 : Vec F S16x4 .f32) (X5 : Vec F S10000x128 .f32) (X6 : Vec F S10000x16 .f32) (A : Vec F S4x10000x128 .f32)
    (hs : ∀ k, (wordAt X1 k).toNat < 10000) (hd : ∀ k, (wordAt X2 k).toNat < 10000) (hr : ∀ k, (wordAt X3 k).toNat < 16) :
    (iprop(opsA c arg1 arg2 arg3 arg4 arg5 arg6 X1 X2 X3 X4 X5 X6 ∗ (arg7.view.loc (c : Thread nD τ) ↦[arg7.view.set]{fullShare} arg7.view.rep A)) : sProp 𝕄)
      ⊢ wp frame (wpE (defs₀ (F := F)) 𝒱 (c : Thread nD τ) bd) E
          (Scf.Loop.for k1_t1_loop k1_t1_ok ⟨⟩ (k1_t1_body (F := F) i arg1 harg1 arg2 harg2 arg3 harg3 arg4 harg4 arg5 harg5 arg6 harg6 arg7 harg7 lanes))
          (fun _ => iprop(opsA c arg1 arg2 arg3 arg4 arg5 arg6 X1 X2 X3 X4 X5 X6
            ∗ (arg7.view.loc (c : Thread nD τ) ↦[arg7.view.set]{fullShare} arg7.view.rep (accRun X1 X2 X3 X4 X5 X6 8000 A)))) := by
  have T := fun (k : Fin k1_t1_loop.trips) (D : Vec F S4x10000x128 .f32) =>
    trip1 (F := F) 𝒱 c bd E i arg1 harg1 arg2 harg2 arg3 harg3 arg4 harg4 arg5 harg5 arg6 harg6 arg7 harg7 X1 X2 X3 X4 X5 X6 D k (hs k.val) (hd k.val) (hr k.val)
  generalize k1_t1_body (F := F) i arg1 harg1 arg2 harg2 arg3 harg3 arg4 harg4 arg5 harg5 arg6 harg6 arg7 harg7 lanes = B at T ⊢
  have h0 : accRun X1 X2 X3 X4 X5 X6 0 A = A := runN_zero _ _
  have hs : ∀ n, accRun X1 X2 X3 X4 X5 X6 (n + 1) A = accStep (wordAt X1 n) (wordAt X2 n) (wordAt X3 n) X4 X5 X6 (accRun X1 X2 X3 X4 X5 X6 n A) := fun n => runN_succ _ _ _
  generalize accRun X1 X2 X3 X4 X5 X6 = R at h0 hs ⊢
  rw [← trips1]
  iintro H
  iapply (Scf.wp_for frame (wpE (defs₀ (F := F)) 𝒱 (c : Thread nD τ) bd) E _ _ _ k1_t1_ok () B
    (fun n _ => iprop(opsA c arg1 arg2 arg3 arg4 arg5 arg6 X1 X2 X3 X4 X5 X6 ∗ (arg7.view.loc (c : Thread nD τ) ↦[arg7.view.set]{fullShare} arg7.view.rep (R n A))))
    (fun k _ => by rw [hs]; exact T k _))
  isplitl [H]
  · rw [h0]
    iexact H
  · iintro %_ H
    iexact H

theorem body1_first (𝒱 : Variants) (c : Dev nD) (bd : Option 𝒱.V) (E : Set ℕ) (i : grid1.Coords) (arg1 : Memref sig .tc .smem S1x1x8000 .i32) (harg1 : arg1.IsWhole)
    (arg2 : Memref sig .tc .smem S1x1x8000 .i32) (harg2 : arg2.IsWhole) (arg3 : Memref sig .tc .smem S1x1x8000 .i32) (harg3 : arg3.IsWhole)
    (arg4 : Memref sig .tc .smem S16x4 .f32) (harg4 : arg4.IsWhole) (arg5 : Memref sig .tc .vmem S10000x128 .f32) (harg5 : arg5.IsWhole)
    (arg6 : Memref sig .tc .vmem S10000x16 .f32) (harg6 : arg6.IsWhole) (arg7 : Memref sig .tc .vmem S4x10000x128 .f32) (harg7 : arg7.IsWhole) (hi : (i 0).val = 0)
    (X1 X2 X3 : Vec F S1x1x8000 .i32) (X4 : Vec F S16x4 .f32) (X5 : Vec F S10000x128 .f32) (X6 : Vec F S10000x16 .f32)
    (hs : ∀ k, (wordAt X1 k).toNat < 10000) (hd : ∀ k, (wordAt X2 k).toNat < 10000) (hr : ∀ k, (wordAt X3 k).toNat < 16)
    (f : BufTy.Contents (Elt F) arg7.view.ty) :
    (iprop(opsA c arg1 arg2 arg3 arg4 arg5 arg6 X1 X2 X3 X4 X5 X6 ∗ (arg7.view.loc (c : Thread nD τ) ↦[arg7.view.set]{fullShare} f)) : sProp 𝕄)
      ⊢ wp frame (wpE (defs₀ (F := F)) 𝒱 (c : Thread nD τ) bd) E (cc1__acc_body (F := F) i arg1 harg1 arg2 harg2 arg3 harg3 arg4 harg4 arg5 harg5 arg6 harg6 arg7 harg7)
          (fun _ => iprop(opsA c arg1 arg2 arg3 arg4 arg5 arg6 X1 X2 X3 X4 X5 X6
            ∗ (arg7.view.loc (c : Thread nD τ) ↦[arg7.view.set]{fullShare} arg7.view.rep (accRun X1 X2 X3 X4 X5 X6 8000 (k1_pay1 (F := F)))))) := by
  have hi' : Scalar.cmpi .ne (Scalar.extui (Scalar.cmpi .eq (BitVec.ofNat 32 (i 0).val) 0#32) : BitVec 32) 0#32 = 1#1 := by rw [hi]; decide
  have L := loop1 (F := F) 𝒱 c bd E i arg1 harg1 arg2 harg2 arg3 harg3 arg4 harg4 arg5 harg5 arg6 harg6 arg7 harg7 X1 X2 X3 X4 X5 X6 (k1_pay1 (F := F)) hs hd hr
  rw [cc1__acc_body_eq_skeleton]
  unfold cc1__acc_body_skel
  iintro ⟨HO, HW_arg7⟩
  sl_exec
  iapply (LaneScatter.bind_of_run frame (wpE (defs₀ (F := F)) 𝒱 (c : Thread nD τ) bd) E L)
  isplitl [HO HW_arg7]
  · isplitl [HO]; · iexact HO
    iapply (pointsTo_rep_of_read (c : Thread nD τ) arg7 _ _ _ ?_) $$ HW_arg7
    exact View.read_writes_full _ _ _ _ _
  · iintro ⟨HO, HW_arg7⟩
    sl_step
    isplitl [HO]; · iexact HO
    iexact HW_arg7

theorem body1_next (𝒱 : Variants) (c : Dev nD) (bd : Option 𝒱.V) (E : Set ℕ) (i : grid1.Coords) (arg1 : Memref sig .tc .smem S1x1x8000 .i32) (harg1 : arg1.IsWhole)
    (arg2 : Memref sig .tc .smem S1x1x8000 .i32) (harg2 : arg2.IsWhole) (arg3 : Memref sig .tc .smem S1x1x8000 .i32) (harg3 : arg3.IsWhole)
    (arg4 : Memref sig .tc .smem S16x4 .f32) (harg4 : arg4.IsWhole) (arg5 : Memref sig .tc .vmem S10000x128 .f32) (harg5 : arg5.IsWhole)
    (arg6 : Memref sig .tc .vmem S10000x16 .f32) (harg6 : arg6.IsWhole) (arg7 : Memref sig .tc .vmem S4x10000x128 .f32) (harg7 : arg7.IsWhole) (hi : (i 0).val ≠ 0)
    (X1 X2 X3 : Vec F S1x1x8000 .i32) (X4 : Vec F S16x4 .f32) (X5 : Vec F S10000x128 .f32) (X6 : Vec F S10000x16 .f32)
    (hs : ∀ k, (wordAt X1 k).toNat < 10000) (hd : ∀ k, (wordAt X2 k).toNat < 10000) (hr : ∀ k, (wordAt X3 k).toNat < 16)
    (A : Vec F S4x10000x128 .f32) :
    (iprop(opsA c arg1 arg2 arg3 arg4 arg5 arg6 X1 X2 X3 X4 X5 X6 ∗ (arg7.view.loc (c : Thread nD τ) ↦[arg7.view.set]{fullShare} arg7.view.rep A)) : sProp 𝕄)
      ⊢ wp frame (wpE (defs₀ (F := F)) 𝒱 (c : Thread nD τ) bd) E (cc1__acc_body (F := F) i arg1 harg1 arg2 harg2 arg3 harg3 arg4 harg4 arg5 harg5 arg6 harg6 arg7 harg7)
          (fun _ => iprop(opsA c arg1 arg2 arg3 arg4 arg5 arg6 X1 X2 X3 X4 X5 X6
            ∗ (arg7.view.loc (c : Thread nD τ) ↦[arg7.view.set]{fullShare} arg7.view.rep (accRun X1 X2 X3 X4 X5 X6 8000 A)))) := by
  have hi' : ¬ (Scalar.cmpi .ne (Scalar.extui (Scalar.cmpi .eq (BitVec.ofNat 32 (i 0).val) 0#32) : BitVec 32) 0#32 = 1#1) := by
    revert hi
    generalize (i 0) = j
    revert j
    decide
  have L := loop1 (F := F) 𝒱 c bd E i arg1 harg1 arg2 harg2 arg3 harg3 arg4 harg4 arg5 harg5 arg6 harg6 arg7 harg7 X1 X2 X3 X4 X5 X6 A hs hd hr
  rw [cc1__acc_body_eq_skeleton]
  unfold cc1__acc_body_skel
  iintro ⟨HO, HW_arg7⟩
  sl_exec
  iapply (LaneScatter.bind_of_run frame (wpE (defs₀ (F := F)) 𝒱 (c : Thread nD τ) bd) E L)
  isplitl [HO HW_arg7]
  · isplitl [HO]; · iexact HO
    iexact HW_arg7
  · iintro ⟨HO, HW_arg7⟩
    sl_step
    isplitl [HO]; · iexact HO
    iexact HW_arg7

end Cert.KernelIdeal.Body
-- ==== Proof.Region1.lean ====
/-
  The second call of the kernel, the first layer's weighted sums over the edges: its proof data and its body obligation.
-/
module

public import proofs.«01_k».proof.Proof.Common
public import proofs.«01_k».proof.Proof.Acc

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-- The weighted sums of every basis and node after `n` chunks of edges. -/
def accAcc (A B D : Vec F S40x1x8000 .i32) (X4 : Vec F S16x4 .f32) (X5 : Vec F S10000x128 .f32) (X6 : Vec F S10000x16 .f32) : ℕ → Vec F S4x10000x128 .f32 :=
  fun n => runN (fun t C => accRun (chunk A t) (chunk B t) (chunk D t) X4 X5 X6 8000 C) n (k1_pay1 (F := F))

variable (V : Vals F)

/-- The call's proof data from an entry valuation: the chunks and the arrays as staged, the sums so far. -/
def dat1 (c : Dev nD) : Dat τ (Elt F) Unit ℕ (UR sig nD τ) ℕ cfg1 c where
  A w := at_ V c (Pipeline.arrRef spec1 w)
  after w t := match w with
    | ⟨0, _⟩ => chunk (at_ V c main_v2) t.val
    | ⟨1, _⟩ => chunk (at_ V c main_v5) t.val
    | ⟨2, _⟩ => chunk (at_ V c main_v6) t.val
    | ⟨3, _⟩ => at_ V c main_arg4
    | ⟨4, _⟩ => at_ V c main_arg0
    | ⟨5, _⟩ => at_ V c main_v12
    | ⟨6, _⟩ => accAcc (at_ V c main_v2) (at_ V c main_v5) (at_ V c main_v6) (at_ V c main_arg4) (at_ V c main_arg0) (at_ V c main_v12) (t.val + 1)
  Φ _ := iprop(Pipeline.scopedRest (Ix := Unit) (Name := ℕ) (U := UR sig nD τ) (Lvl := ℕ) (Val := Elt F) spec1 c ∗ ∃ r, prngReg c r)
  q _ := fullShare
  owed _ := 0

theorem blk1_0 (c : Dev nD) (t : Fin cfg1.N) : (dat1 V c).blockOf 0 t = chunk (at_ V c main_v2) t.val := by
  funext y
  refine congrArg (at_ V c main_v2) ?_
  funext a
  refine Fin.ext ?_
  refine ((cfg1.win 0).rect_emb_val t y a).trans ?_
  have ht : t.val < 40 := t.isLt
  fin_cases a
  · show (BitVec.ofNat 32 (grid0.coords t 0).val).toNat * 1 + (y 0).val = t.val % 40
    rw [tick40]
    have h0 : (y 0).val < 1 := (y 0).isLt
    omega
  · show 0 * 1 + (y 1).val = 0
    have h0 : (y 1).val < 1 := (y 1).isLt
    omega
  · show 0 * 8000 + (y 2).val = (y 2).val
    omega

theorem before1_0 (c : Dev nD) (t : Fin cfg1.N) (d) : (dat1 V c).before 0 t d = chunk (at_ V c main_v2) t.val :=
  ((dat1 V c).before_fetched 0 t (fetch1_0 t) d).trans (blk1_0 V c t)

theorem blk1_1 (c : Dev nD) (t : Fin cfg1.N) : (dat1 V c).blockOf 1 t = chunk (at_ V c main_v5) t.val := by
  funext y
  refine congrArg (at_ V c main_v5) ?_
  funext a
  refine Fin.ext ?_
  refine ((cfg1.win 1).rect_emb_val t y a).trans ?_
  have ht : t.val < 40 := t.isLt
  fin_cases a
  · show (BitVec.ofNat 32 (grid0.coords t 0).val).toNat * 1 + (y 0).val = t.val % 40
    rw [tick40]
    have h0 : (y 0).val < 1 := (y 0).isLt
    omega
  · show 0 * 1 + (y 1).val = 0
    have h0 : (y 1).val < 1 := (y 1).isLt
    omega
  · show 0 * 8000 + (y 2).val = (y 2).val
    omega

theorem before1_1 (c : Dev nD) (t : Fin cfg1.N) (d) : (dat1 V c).before 1 t d = chunk (at_ V c main_v5) t.val :=
  ((dat1 V c).before_fetched 1 t (fetch1_1 t) d).trans (blk1_1 V c t)

theorem blk1_2 (c : Dev nD) (t : Fin cfg1.N) : (dat1 V c).blockOf 2 t = chunk (at_ V c main_v6) t.val := by
  funext y
  refine congrArg (at_ V c main_v6) ?_
  funext a
  refine Fin.ext ?_
  refine ((cfg1.win 2).rect_emb_val t y a).trans ?_
  have ht : t.val < 40 := t.isLt
  fin_cases a
  · show (BitVec.ofNat 32 (grid0.coords t 0).val).toNat * 1 + (y 0).val = t.val % 40
    rw [tick40]
    have h0 : (y 0).val < 1 := (y 0).isLt
    omega
  · show 0 * 1 + (y 1).val = 0
    have h0 : (y 1).val < 1 := (y 1).isLt
    omega
  · show 0 * 8000 + (y 2).val = (y 2).val
    omega

theorem before1_2 (c : Dev nD) (t : Fin cfg1.N) (d) : (dat1 V c).before 2 t d = chunk (at_ V c main_v6) t.val :=
  ((dat1 V c).before_fetched 2 t (fetch1_2 t) d).trans (blk1_2 V c t)

theorem blk1_3 (c : Dev nD) (t : Fin cfg1.N) : (dat1 V c).blockOf 3 t = at_ V c main_arg4 := by
  funext y
  exact congrArg (at_ V c main_arg4) (funext fun a => Fin.ext ((cfg1.win 3).rect_emb_val_of_index_zero t a (by fin_cases a <;> rfl) y))

theorem before1_3 (c : Dev nD) (t : Fin cfg1.N) (d) : (dat1 V c).before 3 t d = at_ V c main_arg4 :=
  ((dat1 V c).before_in_eq_fetched 3 rfl (fun _ => rfl) (fun _ _ _ => rfl) (fun t => (blk1_3 V c t).symm) t d).trans (blk1_3 V c t)

theorem blk1_4 (c : Dev nD) (t : Fin cfg1.N) : (dat1 V c).blockOf 4 t = at_ V c main_arg0 := by
  funext y
  exact congrArg (at_ V c main_arg0) (funext fun a => Fin.ext ((cfg1.win 4).rect_emb_val_of_index_zero t a (by fin_cases a <;> rfl) y))

theorem before1_4 (c : Dev nD) (t : Fin cfg1.N) (d) : (dat1 V c).before 4 t d = at_ V c main_arg0 :=
  ((dat1 V c).before_in_eq_fetched 4 rfl (fun _ => rfl) (fun _ _ _ => rfl) (fun t => (blk1_4 V c t).symm) t d).trans (blk1_4 V c t)

theorem blk1_5 (c : Dev nD) (t : Fin cfg1.N) : (dat1 V c).blockOf 5 t = at_ V c main_v12 := by
  funext y
  exact congrArg (at_ V c main_v12) (funext fun a => Fin.ext ((cfg1.win 5).rect_emb_val_of_index_zero t a (by fin_cases a <;> rfl) y))

theorem before1_5 (c : Dev nD) (t : Fin cfg1.N) (d) : (dat1 V c).before 5 t d = at_ V c main_v12 :=
  ((dat1 V c).before_in_eq_fetched 5 rfl (fun _ => rfl) (fun _ _ _ => rfl) (fun t => (blk1_5 V c t).symm) t d).trans (blk1_5 V c t)

theorem before1_6 (c : Dev nD) (t : Fin cfg1.N) (ht : t.val ≠ 0) (d) :
    (dat1 V c).before 6 t d = accAcc (at_ V c main_v2) (at_ V c main_v5) (at_ V c main_v6) (at_ V c main_arg4) (at_ V c main_arg0) (at_ V c main_v12) t.val := by
  refine ((dat1 V c).before_out_kept 6 rfl t ht ?_ (fun _ => rfl) (fun _ _ => rfl) d).trans ?_
  · refine Bool.eq_false_iff.mpr fun h => ?_
    have h1 := (flush1_6 _).mp h
    have ht : t.val < 40 := t.isLt
    have h2 : (t.val - 1) % 40 = 39 := h1
    omega
  · show accAcc _ _ _ _ _ _ (t.val - 1 + 1) = _
    rw [Nat.sub_add_cancel (Nat.pos_of_ne_zero ht)]

theorem body_obligation1 (c : Dev nD) (hs : ∀ y : S40x1x8000.Idx, (at_ V c main_v2 y).toNat < 10000)
    (hd : ∀ y : S40x1x8000.Idx, (at_ V c main_v5 y).toNat < 10000) (hr : ∀ y : S40x1x8000.Idx, (at_ V c main_v6 y).toNat < 16) :
    BodyObligation (dat1 V c) (defs₀ (F := F)) 𝒱₀ () Set.univ := fun t => by
  rw [bigSep_W1, bigSep_W1]
  rw [show (dat1 V c).Φ t.succ = (dat1 V c).Φ t.castSucc from rfl,
    show (dat1 V c).owesAt () t.succ = (dat1 V c).owesAt () t.castSucc from rfl]
  have hco : (grid1.coords t 0).val = t.val := tick40' t
  have hstep : accAcc (at_ V c main_v2) (at_ V c main_v5) (at_ V c main_v6) (at_ V c main_arg4) (at_ V c main_arg0) (at_ V c main_v12) (t.val + 1)
      = accRun (chunk (at_ V c main_v2) t.val) (chunk (at_ V c main_v5) t.val) (chunk (at_ V c main_v6) t.val) (at_ V c main_arg4) (at_ V c main_arg0) (at_ V c main_v12) 8000
        (accAcc (at_ V c main_v2) (at_ V c main_v5) (at_ V c main_v6) (at_ V c main_arg4) (at_ V c main_arg0) (at_ V c main_v12) t.val) := runN_succ _ _ _
  by_cases h0 : t.val = 0
  · have hs0 : accAcc (at_ V c main_v2) (at_ V c main_v5) (at_ V c main_v6) (at_ V c main_arg4) (at_ V c main_arg0) (at_ V c main_v12) t.val = k1_pay1 := by rw [h0]; exact runN_zero _ _
    rw [hs0] at hstep
    iintro ⟨HΦ, Howes, ⟨%d0, H0⟩, ⟨%d1, H1⟩, ⟨%d2, H2⟩, ⟨%d3, H3⟩, ⟨%d4, H4⟩, ⟨%d5, H5⟩, ⟨%d6, H6⟩⟩
    rw [before1_0, before1_1, before1_2, before1_3, before1_4, before1_5]
    ihave H0 := (owns_rep c (st1_0 t) _) $$ H0
    ihave H1 := (owns_rep c (st1_1 t) _) $$ H1
    ihave H2 := (owns_rep c (st1_2 t) _) $$ H2
    ihave H3 := (owns_rep c (st1_3 t) _) $$ H3
    ihave H4 := (owns_rep c (st1_4 t) _) $$ H4
    ihave H5 := (owns_rep c (st1_5 t) _) $$ H5
    ihave H6 := (owns_rep c (st1_6 t) _) $$ H6
    iapply (wp_wand_r _ _ _)
    isplitr [HΦ Howes]
    · iapply (body1_first 𝒱₀ c none Set.univ (grid1.coords t) (st1_0 t) (hstage1_0 _) (st1_1 t) (hstage1_1 _) (st1_2 t) (hstage1_2 _) (st1_3 t) (hstage1_3 _) (st1_4 t) (hstage1_4 _) (st1_5 t) (hstage1_5 _) (st1_6 t) (hstage1_6 _) (hco.trans h0)
        _ _ _ _ _ _ (chunk_word _ _ hs t.val) (chunk_word _ _ hd t.val) (chunk_word _ _ hr t.val) _)
      isplitr [H6]
      · isplitl [H0]; · iexact H0
        isplitl [H1]; · iexact H1
        isplitl [H2]; · iexact H2
        isplitl [H3]; · iexact H3
        isplitl [H4]; · iexact H4
        iexact H5
      iexact H6
    iintro %_ ⟨⟨H0, H1, H2, H3, H4, H5⟩, H6⟩
    isplitl [HΦ]; · iexact HΦ
    isplitl [Howes]; · iexact Howes
    isplitl [H0]; · iapply (rep_owns c (st1_0 t) _) $$ H0
    isplitl [H1]; · iapply (rep_owns c (st1_1 t) _) $$ H1
    isplitl [H2]; · iapply (rep_owns c (st1_2 t) _) $$ H2
    isplitl [H3]; · iapply (rep_owns c (st1_3 t) _) $$ H3
    isplitl [H4]; · iapply (rep_owns c (st1_4 t) _) $$ H4
    isplitl [H5]; · iapply (rep_owns c (st1_5 t) _) $$ H5
    rw [← hstep]
    iapply (rep_owns c (st1_6 t) _) $$ H6
  · iintro ⟨HΦ, Howes, ⟨%d0, H0⟩, ⟨%d1, H1⟩, ⟨%d2, H2⟩, ⟨%d3, H3⟩, ⟨%d4, H4⟩, ⟨%d5, H5⟩, ⟨%d6, H6⟩⟩
    rw [before1_0, before1_1, before1_2, before1_3, before1_4, before1_5, before1_6 V c t h0]
    ihave H0 := (owns_rep c (st1_0 t) _) $$ H0
    ihave H1 := (owns_rep c (st1_1 t) _) $$ H1
    ihave H2 := (owns_rep c (st1_2 t) _) $$ H2
    ihave H3 := (owns_rep c (st1_3 t) _) $$ H3
    ihave H4 := (owns_rep c (st1_4 t) _) $$ H4
    ihave H5 := (owns_rep c (st1_5 t) _) $$ H5
    ihave H6 := (owns_rep c (st1_6 t) _) $$ H6
    iapply (wp_wand_r _ _ _)
    isplitr [HΦ Howes]
    · iapply (body1_next 𝒱₀ c none Set.univ (grid1.coords t) (st1_0 t) (hstage1_0 _) (st1_1 t) (hstage1_1 _) (st1_2 t) (hstage1_2 _) (st1_3 t) (hstage1_3 _) (st1_4 t) (hstage1_4 _) (st1_5 t) (hstage1_5 _) (st1_6 t) (hstage1_6 _) (fun h => h0 (hco.symm.trans h))
        _ _ _ _ _ _ (chunk_word _ _ hs t.val) (chunk_word _ _ hd t.val) (chunk_word _ _ hr t.val) _)
      isplitr [H6]
      · isplitl [H0]; · iexact H0
        isplitl [H1]; · iexact H1
        isplitl [H2]; · iexact H2
        isplitl [H3]; · iexact H3
        isplitl [H4]; · iexact H4
        iexact H5
      iexact H6
    iintro %_ ⟨⟨H0, H1, H2, H3, H4, H5⟩, H6⟩
    isplitl [HΦ]; · iexact HΦ
    isplitl [Howes]; · iexact Howes
    isplitl [H0]; · iapply (rep_owns c (st1_0 t) _) $$ H0
    isplitl [H1]; · iapply (rep_owns c (st1_1 t) _) $$ H1
    isplitl [H2]; · iapply (rep_owns c (st1_2 t) _) $$ H2
    isplitl [H3]; · iapply (rep_owns c (st1_3 t) _) $$ H3
    isplitl [H4]; · iapply (rep_owns c (st1_4 t) _) $$ H4
    isplitl [H5]; · iapply (rep_owns c (st1_5 t) _) $$ H5
    rw [← hstep]
    iapply (rep_owns c (st1_6 t) _) $$ H6

end Cert.KernelIdeal.Body

end
-- ==== Proof.Acc3.lean ====
module

public import proofs.«01_k».proof.Proof.Gen.KernelIdeal.Skeleton
public import Idealize.ShloMosaic.Lib.Tactic
public import Idealize.ShloMosaic.Lib.LaneScatter.Fold
public import Idealize.ShloMosaic.Lib.VecWindow
public import Idealize.ShloMosaic.Lib.Pointwise
public import proofs.«01_k».proof.Proof.Acc

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem trips3 : k3_t1_loop.trips = 8000 := by decide

theorem word_read3 {sp : Space} (M : Memref sig .tc sp S1x1x8000 .i32) (X : Vec F S1x1x8000 .i32) (k : Fin k3_t1_loop.trips)
    (p : 0 < S1x1x1.numel) :
    M.view.readAt (Elt F) (Rect.unit (s := S1x1x8000) (k3_off1 k) S1x1x1.size (k3_off1_inb k)).toLoadRect (M.view.rep X) (Shape.Idx.first p)
      = wordAt X k.val := word_read0 M X k p

/-- In the second layer the source's row goes through a cast to its own shape: nothing changes. -/
theorem pay6_eq (v : Vec F S1x128 .f32) : k3_pay6 v = v := shapeCast_self v _

theorem pay7_eq (l : IVec S1x16 32) (r : Elt F .i32) (n : Vec F S1x16 .f32) (x : Vec F S1x128 .f32) (w : Elt F .f32) (a : Vec F S1x1x128 .f32) :
    k3_pay7 l r n x w a = k1_pay2 (k1_pay5 l r n) x w a := by
  unfold k3_pay7
  rw [pay6_eq]
  rfl

/-- One trip of the second layer's accumulating loop, at definite contents. -/
theorem trip3 (𝒱 : Variants) (c : Dev nD) (bd : Option 𝒱.V) (E : Set ℕ) (i : grid3.Coords) (arg1 : Memref sig .tc .smem S1x1x8000 .i32) (harg1 : arg1.IsWhole)
    (arg2 : Memref sig .tc .smem S1x1x8000 .i32) (harg2 : arg2.IsWhole) (arg3 : Memref sig .tc .smem S1x1x8000 .i32) (harg3 : arg3.IsWhole)
    (arg4 : Memref sig .tc .smem S16x4 .f32) (harg4 : arg4.IsWhole) (arg5 : Memref sig .tc .vmem S10000x128 .f32) (harg5 : arg5.IsWhole)
    (arg6 : Memref sig .tc .vmem S10000x16 .f32) (harg6 : arg6.IsWhole) (arg7 : Memref sig .tc .vmem S4x10000x128 .f32) (harg7 : arg7.IsWhole)
    (X1 X2 X3 : Vec F S1x1x8000 .i32) (X4 : Vec F S16x4 .f32) (X5 : Vec F S10000x128 .f32) (X6 : Vec F S10000x16 .f32) (A : Vec F S4x10000x128 .f32)
    (k : Fin k3_t1_loop.trips) (hs : (wordAt X1 k.val).toNat < 10000) (hd : (wordAt X2 k.val).toNat < 10000) (hr : (wordAt X3 k.val).toNat < 16) :
    (iprop(opsA c arg1 arg2 arg3 arg4 arg5 arg6 X1 X2 X3 X4 X5 X6 ∗ (arg7.view.loc (c : Thread nD τ) ↦[arg7.view.set]{fullShare} arg7.view.rep A)) : sProp 𝕄)
      ⊢ wp frame (wpE (defs₀ (F := F)) 𝒱 (c : Thread nD τ) bd) E (k3_t1_body (F := F) i arg1 harg1 arg2 harg2 arg3 harg3 arg4 harg4 arg5 harg5 arg6 harg6 arg7 harg7 lanes k ())
          (fun _ => iprop(opsA c arg1 arg2 arg3 arg4 arg5 arg6 X1 X2 X3 X4 X5 X6
            ∗ (arg7.view.loc (c : Thread nD τ) ↦[arg7.view.set]{fullShare} arg7.view.rep (accStep (wordAt X1 k.val) (wordAt X2 k.val) (wordAt X3 k.val) X4 X5 X6 A)))) := by
  have hchk2 : k3_chk2 (arg1.view.readAt (Elt F) (Rect.unit (s := S1x1x8000) (k3_off1 k) S1x1x1.size (k3_off1_inb k)).toLoadRect (arg1.view.rep X1) (Shape.Idx.first (numel1_S1x1x1.symm ▸ Nat.one_pos))) := by
    rw [word_read3 arg1 X1 k]
    exact chk1_2_of_lt _ hs
  have hchk1 : k3_chk1 (arg2.view.readAt (Elt F) (Rect.unit (s := S1x1x8000) (k3_off1 k) S1x1x1.size (k3_off1_inb k)).toLoadRect (arg2.view.rep X2) (Shape.Idx.first (numel1_S1x1x1.symm ▸ Nat.one_pos))) := by
    rw [word_read3 arg2 X2 k]
    exact chk1_1_of_lt _ hd
  have hchk3 : k3_chk3 (arg3.view.readAt (Elt F) (Rect.unit (s := S1x1x8000) (k3_off1 k) S1x1x1.size (k3_off1_inb k)).toLoadRect (arg3.view.rep X3) (Shape.Idx.first (numel1_S1x1x1.symm ▸ Nat.one_pos))) := by
    rw [word_read3 arg3 X3 k]
    exact chk1_3_of_lt _ hr
  unfold k3_t1_body
  rw [k3_part1_eq_skeleton]
  unfold k3_part1_skel
  iintro ⟨⟨HR_arg1, HR_arg2, HR_arg3, HR_arg4, HR_arg5, HR_arg6⟩, HW_arg7⟩
  sl_exec
  sl_step
  isplitr [HW_arg7]
  · isplitl [HR_arg1]; · iexact HR_arg1
    isplitl [HR_arg2]; · iexact HR_arg2
    isplitl [HR_arg3]; · iexact HR_arg3
    isplitl [HR_arg4]; · iexact HR_arg4
    isplitl [HR_arg5]; · iexact HR_arg5
    iexact HR_arg6
  iapply (pointsTo_rep_of_read (c : Thread nD τ) arg7 _ _ _ ?_) $$ HW_arg7
  sl_unfold_run_names
  funext y
  idx_vars y
  refine (four_rows arg7.view A _ ?_ _ _ _ _ _ _ _ _ _ _ _).trans ?_
  · rw [word_read3]; exact hd
  rw [cnt_read _ _ (wordAt X2 k.val) hd (k3_off2 _) _ (by rw [word_read3]; rfl), x_read _ _ (wordAt X1 k.val) hs (k3_off3 _) _ (by rw [word_read3]; rfl),
    coef_read _ _ (wordAt X3 k.val) hr 0 (k3_off4 _) _ (by rw [word_read3]; rfl), coef_read _ _ (wordAt X3 k.val) hr 1 (k3_off6 _) _ (by rw [word_read3]; rfl),
    coef_read _ _ (wordAt X3 k.val) hr 2 (k3_off8 _) _ (by rw [word_read3]; rfl), coef_read _ _ (wordAt X3 k.val) hr 3 (k3_off10 _) _ (by rw [word_read3]; rfl)]
  rw [word_read3, word_read3]
  have ey : y1.val = (wordAt X2 k.val).toNat → (⟨(wordAt X2 k.val).toNat % 10000, Nat.mod_lt _ (by decide)⟩ : Fin 10000) = y1 :=
    fun h => Fin.ext ((Nat.mod_eq_of_lt hd).trans h.symm)
  by_cases h : y1.val = (wordAt X2 k.val).toNat
  · refine (if_pos h).trans (Eq.trans ?_ (if_pos (show ((ix3 y0 y1 y2 : S4x10000x128.Idx) 1).val = _ from h)).symm)
    rw [ey h]
    rw [pay6_eq]
    fin_cases y0
    · exact congrFun (pay7_eq _ _ _ _ _ _) _
    all_goals rfl
  · exact (if_neg h).trans (if_neg (show ¬ ((ix3 y0 y1 y2 : S4x10000x128.Idx) 1).val = _ from h)).symm

/-- The whole accumulating loop at definite contents. -/
theorem loop3 (𝒱 : Variants) (c : Dev nD) (bd : Option 𝒱.V) (E : Set ℕ) (i : grid3.Coords) (arg1 : Memref sig .tc .smem S1x1x8000 .i32) (harg1 : arg1.IsWhole)
    (arg2 : Memref sig .tc .smem S1x1x8000 .i32) (harg2 : arg2.IsWhole) (arg3 : Memref sig .tc .smem S1x1x8000 .i32) (harg3 : arg3.IsWhole)
    (arg4 : Memref sig .tc .smem S16x4 .f32) (harg4 : arg4.IsWhole) (arg5 : Memref sig .tc .vmem S10000x128 .f32) (harg5 : arg5.IsWhole)
    (arg6 : Memref sig .tc .vmem S10000x16 .f32) (harg6 : arg6.IsWhole) (arg7 : Memref sig .tc .vmem S4x10000x128 .f32) (harg7 : arg7.IsWhole)
    (X1 X2 X3 : Vec F S1x1x8000 .i32) (X4 : Vec F S16x4 .f32) (X5 : Vec F S10000x128 .f32) (X6 : Vec F S10000x16 .f32) (A : Vec F S4x10000x128 .f32)
    (hs : ∀ k, (wordAt X1 k).toNat < 10000) (hd : ∀ k, (wordAt X2 k).toNat < 10000) (hr : ∀ k, (wordAt X3 k).toNat < 16) :
    (iprop(opsA c arg1 arg2 arg3 arg4 arg5 arg6 X1 X2 X3 X4 X5 X6 ∗ (arg7.view.loc (c : Thread nD τ) ↦[arg7.view.set]{fullShare} arg7.view.rep A)) : sProp 𝕄)
      ⊢ wp frame (wpE (defs₀ (F := F)) 𝒱 (c : Thread nD τ) bd) E
          (Scf.Loop.for k3_t1_loop k3_t1_ok ⟨⟩ (k3_t1_body (F := F) i arg1 harg1 arg2 harg2 arg3 harg3 arg4 harg4 arg5 harg5 arg6 harg6 arg7 harg7 lanes))
          (fun _ => iprop(opsA c arg1 arg2 arg3 arg4 arg5 arg6 X1 X2 X3 X4 X5 X6
            ∗ (arg7.view.loc (c : Thread nD τ) ↦[arg7.view.set]{fullShare} arg7.view.rep (accRun X1 X2 X3 X4 X5 X6 8000 A)))) := by
  have T := fun (k : Fin k3_t1_loop.trips) (D : Vec F S4x10000x128 .f32) =>
    trip3 (F := F) 𝒱 c bd E i arg1 harg1 arg2 harg2 arg3 harg3 arg4 harg4 arg5 harg5 arg6 harg6 arg7 harg7 X1 X2 X3 X4 X5 X6 D k (hs k.val) (hd k.val) (hr k.val)
  generalize k3_t1_body (F := F) i arg1 harg1 arg2 harg2 arg3 harg3 arg4 harg4 arg5 harg5 arg6 harg6 arg7 harg7 lanes = B at T ⊢
  have h0 : accRun X1 X2 X3 X4 X5 X6 0 A = A := runN_zero _ _
  have hs : ∀ n, accRun X1 X2 X3 X4 X5 X6 (n + 1) A = accStep (wordAt X1 n) (wordAt X2 n) (wordAt X3 n) X4 X5 X6 (accRun X1 X2 X3 X4 X5 X6 n A) := fun n => runN_succ _ _ _
  generalize accRun X1 X2 X3 X4 X5 X6 = R at h0 hs ⊢
  rw [← trips3]
  iintro H
  iapply (Scf.wp_for frame (wpE (defs₀ (F := F)) 𝒱 (c : Thread nD τ) bd) E _ _ _ k3_t1_ok () B
    (fun n _ => iprop(opsA c arg1 arg2 arg3 arg4 arg5 arg6 X1 X2 X3 X4 X5 X6 ∗ (arg7.view.loc (c : Thread nD τ) ↦[arg7.view.set]{fullShare} arg7.view.rep (R n A))))
    (fun k _ => by rw [hs]; exact T k _))
  isplitl [H]
  · rw [h0]
    iexact H
  · iintro %_ H
    iexact H

theorem body3_first (𝒱 : Variants) (c : Dev nD) (bd : Option 𝒱.V) (E : Set ℕ) (i : grid3.Coords) (arg1 : Memref sig .tc .smem S1x1x8000 .i32) (harg1 : arg1.IsWhole)
    (arg2 : Memref sig .tc .smem S1x1x8000 .i32) (harg2 : arg2.IsWhole) (arg3 : Memref sig .tc .smem S1x1x8000 .i32) (harg3 : arg3.IsWhole)
    (arg4 : Memref sig .tc .smem S16x4 .f32) (harg4 : arg4.IsWhole) (arg5 : Memref sig .tc .vmem S10000x128 .f32) (harg5 : arg5.IsWhole)
    (arg6 : Memref sig .tc .vmem S10000x16 .f32) (harg6 : arg6.IsWhole) (arg7 : Memref sig .tc .vmem S4x10000x128 .f32) (harg7 : arg7.IsWhole) (hi : (i 0).val = 0)
    (X1 X2 X3 : Vec F S1x1x8000 .i32) (X4 : Vec F S16x4 .f32) (X5 : Vec F S10000x128 .f32) (X6 : Vec F S10000x16 .f32)
    (hs : ∀ k, (wordAt X1 k).toNat < 10000) (hd : ∀ k, (wordAt X2 k).toNat < 10000) (hr : ∀ k, (wordAt X3 k).toNat < 16)
    (f : BufTy.Contents (Elt F) arg7.view.ty) :
    (iprop(opsA c arg1 arg2 arg3 arg4 arg5 arg6 X1 X2 X3 X4 X5 X6 ∗ (arg7.view.loc (c : Thread nD τ) ↦[arg7.view.set]{fullShare} f)) : sProp 𝕄)
      ⊢ wp frame (wpE (defs₀ (F := F)) 𝒱 (c : Thread nD τ) bd) E (cc3__acc_body (F := F) i arg1 harg1 arg2 harg2 arg3 harg3 arg4 harg4 arg5 harg5 arg6 harg6 arg7 harg7)
          (fun _ => iprop(opsA c arg1 arg2 arg3 arg4 arg5 arg6 X1 X2 X3 X4 X5 X6
            ∗ (arg7.view.loc (c : Thread nD τ) ↦[arg7.view.set]{fullShare} arg7.view.rep (accRun X1 X2 X3 X4 X5 X6 8000 (k1_pay1 (F := F)))))) := by
  have hi' : Scalar.cmpi .ne (Scalar.extui (Scalar.cmpi .eq (BitVec.ofNat 32 (i 0).val) 0#32) : BitVec 32) 0#32 = 1#1 := by rw [hi]; decide
  have L := loop3 (F := F) 𝒱 c bd E i arg1 harg1 arg2 harg2 arg3 harg3 arg4 harg4 arg5 harg5 arg6 harg6 arg7 harg7 X1 X2 X3 X4 X5 X6 (k1_pay1 (F := F)) hs hd hr
  rw [cc3__acc_body_eq_skeleton]
  unfold cc3__acc_body_skel
  iintro ⟨HO, HW_arg7⟩
  sl_exec
  iapply (LaneScatter.bind_of_run frame (wpE (defs₀ (F := F)) 𝒱 (c : Thread nD τ) bd) E L)
  isplitl [HO HW_arg7]
  · isplitl [HO]; · iexact HO
    iapply (pointsTo_rep_of_read (c : Thread nD τ) arg7 _ _ _ ?_) $$ HW_arg7
    exact View.read_writes_full _ _ _ _ _
  · iintro ⟨HO, HW_arg7⟩
    sl_step
    isplitl [HO]; · iexact HO
    iexact HW_arg7

theorem body3_next (𝒱 : Variants) (c : Dev nD) (bd : Option 𝒱.V) (E : Set ℕ) (i : grid3.Coords) (arg1 : Memref sig .tc .smem S1x1x8000 .i32) (harg1 : arg1.IsWhole)
    (arg2 : Memref sig .tc .smem S1x1x8000 .i32) (harg2 : arg2.IsWhole) (arg3 : Memref sig .tc .smem S1x1x8000 .i32) (harg3 : arg3.IsWhole)
    (arg4 : Memref sig .tc .smem S16x4 .f32) (harg4 : arg4.IsWhole) (arg5 : Memref sig .tc .vmem S10000x128 .f32) (harg5 : arg5.IsWhole)
    (arg6 : Memref sig .tc .vmem S10000x16 .f32) (harg6 : arg6.IsWhole) (arg7 : Memref sig .tc .vmem S4x10000x128 .f32) (harg7 : arg7.IsWhole) (hi : (i 0).val ≠ 0)
    (X1 X2 X3 : Vec F S1x1x8000 .i32) (X4 : Vec F S16x4 .f32) (X5 : Vec F S10000x128 .f32) (X6 : Vec F S10000x16 .f32)
    (hs : ∀ k, (wordAt X1 k).toNat < 10000) (hd : ∀ k, (wordAt X2 k).toNat < 10000) (hr : ∀ k, (wordAt X3 k).toNat < 16)
    (A : Vec F S4x10000x128 .f32) :
    (iprop(opsA c arg1 arg2 arg3 arg4 arg5 arg6 X1 X2 X3 X4 X5 X6 ∗ (arg7.view.loc (c : Thread nD τ) ↦[arg7.view.set]{fullShare} arg7.view.rep A)) : sProp 𝕄)
      ⊢ wp frame (wpE (defs₀ (F := F)) 𝒱 (c : Thread nD τ) bd) E (cc3__acc_body (F := F) i arg1 harg1 arg2 harg2 arg3 harg3 arg4 harg4 arg5 harg5 arg6 harg6 arg7 harg7)
          (fun _ => iprop(opsA c arg1 arg2 arg3 arg4 arg5 arg6 X1 X2 X3 X4 X5 X6
            ∗ (arg7.view.loc (c : Thread nD τ) ↦[arg7.view.set]{fullShare} arg7.view.rep (accRun X1 X2 X3 X4 X5 X6 8000 A)))) := by
  have hi' : ¬ (Scalar.cmpi .ne (Scalar.extui (Scalar.cmpi .eq (BitVec.ofNat 32 (i 0).val) 0#32) : BitVec 32) 0#32 = 1#1) := by
    revert hi
    generalize (i 0) = j
    revert j
    decide
  have L := loop3 (F := F) 𝒱 c bd E i arg1 harg1 arg2 harg2 arg3 harg3 arg4 harg4 arg5 harg5 arg6 harg6 arg7 harg7 X1 X2 X3 X4 X5 X6 A hs hd hr
  rw [cc3__acc_body_eq_skeleton]
  unfold cc3__acc_body_skel
  iintro ⟨HO, HW_arg7⟩
  sl_exec
  iapply (LaneScatter.bind_of_run frame (wpE (defs₀ (F := F)) 𝒱 (c : Thread nD τ) bd) E L)
  isplitl [HO HW_arg7]
  · isplitl [HO]; · iexact HO
    iexact HW_arg7
  · iintro ⟨HO, HW_arg7⟩
    sl_step
    isplitl [HO]; · iexact HO
    iexact HW_arg7

end Cert.KernelIdeal.Body
-- ==== Proof.Region3.lean ====
/-
  The fourth call of the kernel, the second layer's weighted sums over the edges: its proof data and its body obligation.
-/
module

public import proofs.«01_k».proof.Proof.Region1
public import proofs.«01_k».proof.Proof.Acc3

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (V : Vals F)

/-- The call's proof data from an entry valuation: the chunks and the arrays as staged, the sums so far. -/
def dat3 (c : Dev nD) : Dat τ (Elt F) Unit ℕ (UR sig nD τ) ℕ cfg3 c where
  A w := at_ V c (Pipeline.arrRef spec3 w)
  after w t := match w with
    | ⟨0, _⟩ => chunk (at_ V c main_v2) t.val
    | ⟨1, _⟩ => chunk (at_ V c main_v5) t.val
    | ⟨2, _⟩ => chunk (at_ V c main_v6) t.val
    | ⟨3, _⟩ => at_ V c main_arg9
    | ⟨4, _⟩ => at_ V c main_v14
    | ⟨5, _⟩ => at_ V c main_v12
    | ⟨6, _⟩ => accAcc (at_ V c main_v2) (at_ V c main_v5) (at_ V c main_v6) (at_ V c main_arg9) (at_ V c main_v14) (at_ V c main_v12) (t.val + 1)
  Φ _ := iprop(Pipeline.scopedRest (Ix := Unit) (Name := ℕ) (U := UR sig nD τ) (Lvl := ℕ) (Val := Elt F) spec3 c ∗ ∃ r, prngReg c r)
  q _ := fullShare
  owed _ := 0

theorem blk3_0 (c : Dev nD) (t : Fin cfg3.N) : (dat3 V c).blockOf 0 t = chunk (at_ V c main_v2) t.val := by
  funext y
  refine congrArg (at_ V c main_v2) ?_
  funext a
  refine Fin.ext ?_
  refine ((cfg3.win 0).rect_emb_val t y a).trans ?_
  have ht : t.val < 40 := t.isLt
  fin_cases a
  · show (BitVec.ofNat 32 (grid0.coords t 0).val).toNat * 1 + (y 0).val = t.val % 40
    rw [tick40]
    have h0 : (y 0).val < 1 := (y 0).isLt
    omega
  · show 0 * 1 + (y 1).val = 0
    have h0 : (y 1).val < 1 := (y 1).isLt
    omega
  · show 0 * 8000 + (y 2).val = (y 2).val
    omega

theorem before3_0 (c : Dev nD) (t : Fin cfg3.N) (d) : (dat3 V c).before 0 t d = chunk (at_ V c main_v2) t.val :=
  ((dat3 V c).before_fetched 0 t (fetch3_0 t) d).trans (blk3_0 V c t)

theorem blk3_1 (c : Dev nD) (t : Fin cfg3.N) : (dat3 V c).blockOf 1 t = chunk (at_ V c main_v5) t.val := by
  funext y
  refine congrArg (at_ V c main_v5) ?_
  funext a
  refine Fin.ext ?_
  refine ((cfg3.win 1).rect_emb_val t y a).trans ?_
  have ht : t.val < 40 := t.isLt
  fin_cases a
  · show (BitVec.ofNat 32 (grid0.coords t 0).val).toNat * 1 + (y 0).val = t.val % 40
    rw [tick40]
    have h0 : (y 0).val < 1 := (y 0).isLt
    omega
  · show 0 * 1 + (y 1).val = 0
    have h0 : (y 1).val < 1 := (y 1).isLt
    omega
  · show 0 * 8000 + (y 2).val = (y 2).val
    omega

theorem before3_1 (c : Dev nD) (t : Fin cfg3.N) (d) : (dat3 V c).before 1 t d = chunk (at_ V c main_v5) t.val :=
  ((dat3 V c).before_fetched 1 t (fetch3_1 t) d).trans (blk3_1 V c t)

theorem blk3_2 (c : Dev nD) (t : Fin cfg3.N) : (dat3 V c).blockOf 2 t = chunk (at_ V c main_v6) t.val := by
  funext y
  refine congrArg (at_ V c main_v6) ?_
  funext a
  refine Fin.ext ?_
  refine ((cfg3.win 2).rect_emb_val t y a).trans ?_
  have ht : t.val < 40 := t.isLt
  fin_cases a
  · show (BitVec.ofNat 32 (grid0.coords t 0).val).toNat * 1 + (y 0).val = t.val % 40
    rw [tick40]
    have h0 : (y 0).val < 1 := (y 0).isLt
    omega
  · show 0 * 1 + (y 1).val = 0
    have h0 : (y 1).val < 1 := (y 1).isLt
    omega
  · show 0 * 8000 + (y 2).val = (y 2).val
    omega

theorem before3_2 (c : Dev nD) (t : Fin cfg3.N) (d) : (dat3 V c).before 2 t d = chunk (at_ V c main_v6) t.val :=
  ((dat3 V c).before_fetched 2 t (fetch3_2 t) d).trans (blk3_2 V c t)

theorem blk3_3 (c : Dev nD) (t : Fin cfg3.N) : (dat3 V c).blockOf 3 t = at_ V c main_arg9 := by
  funext y
  exact congrArg (at_ V c main_arg9) (funext fun a => Fin.ext ((cfg3.win 3).rect_emb_val_of_index_zero t a (by fin_cases a <;> rfl) y))

theorem before3_3 (c : Dev nD) (t : Fin cfg3.N) (d) : (dat3 V c).before 3 t d = at_ V c main_arg9 :=
  ((dat3 V c).before_in_eq_fetched 3 rfl (fun _ => rfl) (fun _ _ _ => rfl) (fun t => (blk3_3 V c t).symm) t d).trans (blk3_3 V c t)

theorem blk3_4 (c : Dev nD) (t : Fin cfg3.N) : (dat3 V c).blockOf 4 t = at_ V c main_v14 := by
  funext y
  exact congrArg (at_ V c main_v14) (funext fun a => Fin.ext ((cfg3.win 4).rect_emb_val_of_index_zero t a (by fin_cases a <;> rfl) y))

theorem before3_4 (c : Dev nD) (t : Fin cfg3.N) (d) : (dat3 V c).before 4 t d = at_ V c main_v14 :=
  ((dat3 V c).before_in_eq_fetched 4 rfl (fun _ => rfl) (fun _ _ _ => rfl) (fun t => (blk3_4 V c t).symm) t d).trans (blk3_4 V c t)

theorem blk3_5 (c : Dev nD) (t : Fin cfg3.N) : (dat3 V c).blockOf 5 t = at_ V c main_v12 := by
  funext y
  exact congrArg (at_ V c main_v12) (funext fun a => Fin.ext ((cfg3.win 5).rect_emb_val_of_index_zero t a (by fin_cases a <;> rfl) y))

theorem before3_5 (c : Dev nD) (t : Fin cfg3.N) (d) : (dat3 V c).before 5 t d = at_ V c main_v12 :=
  ((dat3 V c).before_in_eq_fetched 5 rfl (fun _ => rfl) (fun _ _ _ => rfl) (fun t => (blk3_5 V c t).symm) t d).trans (blk3_5 V c t)

theorem before3_6 (c : Dev nD) (t : Fin cfg3.N) (ht : t.val ≠ 0) (d) :
    (dat3 V c).before 6 t d = accAcc (at_ V c main_v2) (at_ V c main_v5) (at_ V c main_v6) (at_ V c main_arg9) (at_ V c main_v14) (at_ V c main_v12) t.val := by
  refine ((dat3 V c).before_out_kept 6 rfl t ht ?_ (fun _ => rfl) (fun _ _ => rfl) d).trans ?_
  · refine Bool.eq_false_iff.mpr fun h => ?_
    have h1 := (flush3_6 _).mp h
    have ht : t.val < 40 := t.isLt
    have h2 : (t.val - 1) % 40 = 39 := h1
    omega
  · show accAcc _ _ _ _ _ _ (t.val - 1 + 1) = _
    rw [Nat.sub_add_cancel (Nat.pos_of_ne_zero ht)]

theorem body_obligation3 (c : Dev nD) (hs : ∀ y : S40x1x8000.Idx, (at_ V c main_v2 y).toNat < 10000)
    (hd : ∀ y : S40x1x8000.Idx, (at_ V c main_v5 y).toNat < 10000) (hr : ∀ y : S40x1x8000.Idx, (at_ V c main_v6 y).toNat < 16) :
    BodyObligation (dat3 V c) (defs₀ (F := F)) 𝒱₀ () Set.univ := fun t => by
  rw [bigSep_W3, bigSep_W3]
  rw [show (dat3 V c).Φ t.succ = (dat3 V c).Φ t.castSucc from rfl,
    show (dat3 V c).owesAt () t.succ = (dat3 V c).owesAt () t.castSucc from rfl]
  have hco : (grid3.coords t 0).val = t.val := tick40' t
  have hstep : accAcc (at_ V c main_v2) (at_ V c main_v5) (at_ V c main_v6) (at_ V c main_arg9) (at_ V c main_v14) (at_ V c main_v12) (t.val + 1)
      = accRun (chunk (at_ V c main_v2) t.val) (chunk (at_ V c main_v5) t.val) (chunk (at_ V c main_v6) t.val) (at_ V c main_arg9) (at_ V c main_v14) (at_ V c main_v12) 8000
        (accAcc (at_ V c main_v2) (at_ V c main_v5) (at_ V c main_v6) (at_ V c main_arg9) (at_ V c main_v14) (at_ V c main_v12) t.val) := runN_succ _ _ _
  by_cases h0 : t.val = 0
  · have hs0 : accAcc (at_ V c main_v2) (at_ V c main_v5) (at_ V c main_v6) (at_ V c main_arg9) (at_ V c main_v14) (at_ V c main_v12) t.val = k1_pay1 := by rw [h0]; exact runN_zero _ _
    rw [hs0] at hstep
    iintro ⟨HΦ, Howes, ⟨%d0, H0⟩, ⟨%d1, H1⟩, ⟨%d2, H2⟩, ⟨%d3, H3⟩, ⟨%d4, H4⟩, ⟨%d5, H5⟩, ⟨%d6, H6⟩⟩
    rw [before3_0, before3_1, before3_2, before3_3, before3_4, before3_5]
    ihave H0 := (owns_rep c (st3_0 t) _) $$ H0
    ihave H1 := (owns_rep c (st3_1 t) _) $$ H1
    ihave H2 := (owns_rep c (st3_2 t) _) $$ H2
    ihave H3 := (owns_rep c (st3_3 t) _) $$ H3
    ihave H4 := (owns_rep c (st3_4 t) _) $$ H4
    ihave H5 := (owns_rep c (st3_5 t) _) $$ H5
    ihave H6 := (owns_rep c (st3_6 t) _) $$ H6
    iapply (wp_wand_r _ _ _)
    isplitr [HΦ Howes]
    · iapply (body3_first 𝒱₀ c none Set.univ (grid3.coords t) (st3_0 t) (hstage3_0 _) (st3_1 t) (hstage3_1 _) (st3_2 t) (hstage3_2 _) (st3_3 t) (hstage3_3 _) (st3_4 t) (hstage3_4 _) (st3_5 t) (hstage3_5 _) (st3_6 t) (hstage3_6 _) (hco.trans h0)
        _ _ _ _ _ _ (chunk_word _ _ hs t.val) (chunk_word _ _ hd t.val) (chunk_word _ _ hr t.val) _)
      isplitr [H6]
      · isplitl [H0]; · iexact H0
        isplitl [H1]; · iexact H1
        isplitl [H2]; · iexact H2
        isplitl [H3]; · iexact H3
        isplitl [H4]; · iexact H4
        iexact H5
      iexact H6
    iintro %_ ⟨⟨H0, H1, H2, H3, H4, H5⟩, H6⟩
    isplitl [HΦ]; · iexact HΦ
    isplitl [Howes]; · iexact Howes
    isplitl [H0]; · iapply (rep_owns c (st3_0 t) _) $$ H0
    isplitl [H1]; · iapply (rep_owns c (st3_1 t) _) $$ H1
    isplitl [H2]; · iapply (rep_owns c (st3_2 t) _) $$ H2
    isplitl [H3]; · iapply (rep_owns c (st3_3 t) _) $$ H3
    isplitl [H4]; · iapply (rep_owns c (st3_4 t) _) $$ H4
    isplitl [H5]; · iapply (rep_owns c (st3_5 t) _) $$ H5
    rw [← hstep]
    iapply (rep_owns c (st3_6 t) _) $$ H6
  · iintro ⟨HΦ, Howes, ⟨%d0, H0⟩, ⟨%d1, H1⟩, ⟨%d2, H2⟩, ⟨%d3, H3⟩, ⟨%d4, H4⟩, ⟨%d5, H5⟩, ⟨%d6, H6⟩⟩
    rw [before3_0, before3_1, before3_2, before3_3, before3_4, before3_5, before3_6 V c t h0]
    ihave H0 := (owns_rep c (st3_0 t) _) $$ H0
    ihave H1 := (owns_rep c (st3_1 t) _) $$ H1
    ihave H2 := (owns_rep c (st3_2 t) _) $$ H2
    ihave H3 := (owns_rep c (st3_3 t) _) $$ H3
    ihave H4 := (owns_rep c (st3_4 t) _) $$ H4
    ihave H5 := (owns_rep c (st3_5 t) _) $$ H5
    ihave H6 := (owns_rep c (st3_6 t) _) $$ H6
    iapply (wp_wand_r _ _ _)
    isplitr [HΦ Howes]
    · iapply (body3_next 𝒱₀ c none Set.univ (grid3.coords t) (st3_0 t) (hstage3_0 _) (st3_1 t) (hstage3_1 _) (st3_2 t) (hstage3_2 _) (st3_3 t) (hstage3_3 _) (st3_4 t) (hstage3_4 _) (st3_5 t) (hstage3_5 _) (st3_6 t) (hstage3_6 _) (fun h => h0 (hco.symm.trans h))
        _ _ _ _ _ _ (chunk_word _ _ hs t.val) (chunk_word _ _ hd t.val) (chunk_word _ _ hr t.val) _)
      isplitr [H6]
      · isplitl [H0]; · iexact H0
        isplitl [H1]; · iexact H1
        isplitl [H2]; · iexact H2
        isplitl [H3]; · iexact H3
        isplitl [H4]; · iexact H4
        iexact H5
      iexact H6
    iintro %_ ⟨⟨H0, H1, H2, H3, H4, H5⟩, H6⟩
    isplitl [HΦ]; · iexact HΦ
    isplitl [Howes]; · iexact Howes
    isplitl [H0]; · iapply (rep_owns c (st3_0 t) _) $$ H0
    isplitl [H1]; · iapply (rep_owns c (st3_1 t) _) $$ H1
    isplitl [H2]; · iapply (rep_owns c (st3_2 t) _) $$ H2
    isplitl [H3]; · iapply (rep_owns c (st3_3 t) _) $$ H3
    isplitl [H4]; · iapply (rep_owns c (st3_4 t) _) $$ H4
    isplitl [H5]; · iapply (rep_owns c (st3_5 t) _) $$ H5
    rw [← hstep]
    iapply (rep_owns c (st3_6 t) _) $$ H6

end Cert.KernelIdeal.Body

end
-- ==== Proof.Dense.lean ====
module

public import proofs.«01_k».proof.Proof.Gen.KernelIdeal.Skeleton
public import Idealize.ShloMosaic.Lib.Tactic
public import Idealize.ShloMosaic.Lib.LaneScatter.Fold
public import Idealize.ShloMosaic.Lib.VecWindow
public import Idealize.ShloMosaic.Lib.Pointwise
public import proofs.«01_k».proof.Proof.Acc

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a dense body holds besides its result: its seven operands at definite contents. -/
abbrev opsD (c : Dev nD) (arg1 : Memref sig .tc .vmem S400x128 .f32) (arg2 : Memref sig .tc .vmem S4x400x128 .f32) (arg3 : Memref sig .tc .vmem S4x128x128 .f32) (arg4 : Memref sig .tc .vmem S128x128 .f32) (arg5 : Memref sig .tc .vmem S1x128 .f32) (arg6 : Memref sig .tc .vmem S1x128 .f32) (arg7 : Memref sig .tc .smem S1x1 .f32)
    (X1 : Vec F S400x128 .f32) (X2 : Vec F S4x400x128 .f32) (X3 : Vec F S4x128x128 .f32) (X4 : Vec F S128x128 .f32) (X5 : Vec F S1x128 .f32) (X6 : Vec F S1x128 .f32) (X7 : Vec F S1x1 .f32) : sProp 𝕄 :=
  iprop((arg1.view.loc (c : Thread nD τ) ↦[arg1.view.set]{fullShare} arg1.view.rep X1) ∗ (arg2.view.loc (c : Thread nD τ) ↦[arg2.view.set]{fullShare} arg2.view.rep X2) ∗ (arg3.view.loc (c : Thread nD τ) ↦[arg3.view.set]{fullShare} arg3.view.rep X3) ∗ (arg4.view.loc (c : Thread nD τ) ↦[arg4.view.set]{fullShare} arg4.view.rep X4) ∗ (arg5.view.loc (c : Thread nD τ) ↦[arg5.view.set]{fullShare} arg5.view.rep X5) ∗ (arg6.view.loc (c : Thread nD τ) ↦[arg6.view.set]{fullShare} arg6.view.rep X6) ∗ (arg7.view.loc (c : Thread nD τ) ↦[arg7.view.set]{fullShare} arg7.view.rep X7))

/-- One base's block of accumulated rows. -/
def slabA (X : Vec F S4x400x128 .f32) (b : Fin 4) : Vec F S1x400x128 .f32 := fun z => X (ix3 b (z 1) (z 2))

/-- One base's matrix. -/
def slabB (X : Vec F S4x128x128 .f32) (b : Fin 4) : Vec F S1x128x128 .f32 := fun z => X (ix3 b (z 1) (z 2))

theorem slabA_read (M : Memref sig .tc .vmem S4x400x128 .f32) (X : Vec F S4x400x128 .f32) (b : Fin 4) (off : Fin 3 → ℕ)
    (inb : ∀ a, off a + S1x400x128.size a ≤ S4x400x128.size a) (ho : off = ![b.val, 0, 0]) :
    (M.view.readAt (Elt F) (Rect.unit (s := S4x400x128) off S1x400x128.size inb).toLoadRect (M.view.rep X) : Vec F S1x400x128 .f32) = slabA X b := by
  subst ho
  funext z
  idx_vars z
  rw [View.readAt_rep]
  refine congrArg X (funext fun a => Fin.ext ?_)
  fin_cases a
  · show b.val + 1 * z0.val = b.val
    omega
  · show 0 + 1 * z1.val = z1.val
    omega
  · show 0 + 1 * z2.val = z2.val
    omega

theorem slabB_read (M : Memref sig .tc .vmem S4x128x128 .f32) (X : Vec F S4x128x128 .f32) (b : Fin 4) (off : Fin 3 → ℕ)
    (inb : ∀ a, off a + S1x128x128.size a ≤ S4x128x128.size a) (ho : off = ![b.val, 0, 0]) :
    (M.view.readAt (Elt F) (Rect.unit (s := S4x128x128) off S1x128x128.size inb).toLoadRect (M.view.rep X) : Vec F S1x128x128 .f32) = slabB X b := by
  subst ho
  funext z
  idx_vars z
  rw [View.readAt_rep]
  refine congrArg X (funext fun a => Fin.ext ?_)
  fin_cases a
  · show b.val + 1 * z0.val = b.val
    omega
  · show 0 + 1 * z1.val = z1.val
    omega
  · show 0 + 1 * z2.val = z2.val
    omega

theorem scale_read (M : Memref sig .tc .smem S1x1 .f32) (X : Vec F S1x1 .f32) (inb : ∀ a, (![0, 0] : Fin 2 → ℕ) a + S1x1.size a ≤ S1x1.size a) (p : 0 < S1x1.numel) :
    M.view.readAt (Elt F) (Rect.unit (s := S1x1) ![0, 0] S1x1.size inb).toLoadRect (M.view.rep X) (Shape.Idx.first p) = X (ix2 0 0) := by
  rw [View.readAt_rep]
  refine congrArg X (funext fun a => Fin.ext ?_)
  have := ((Rect.unit (s := S1x1) ![0, 0] S1x1.size inb).toLoadRect.idx (Shape.Idx.first p) a).isLt
  fin_cases a
  · exact Nat.lt_one_iff.1 this
  · exact Nat.lt_one_iff.1 this

/-- The first layer's dense part on one block of rows. -/
def dense2 (X1 : Vec F S400x128 .f32) (X2 : Vec F S4x400x128 .f32) (X3 : Vec F S4x128x128 .f32) (X4 : Vec F S128x128 .f32) (X5 : Vec F S1x128 .f32) (X6 : Vec F S1x128 .f32)  : Vec F S400x128 .f32 :=
  k2_pay1 (k2_pay2 X1 X4 (slabA X2 0) (slabB X3 0) (slabA X2 1) (slabB X3 1) (slabA X2 2) (slabB X3 2)) (k2_pay3 (slabA X2 3) (slabB X3 3)) X5 X6

/-- The second layer's dense part on one block of rows. -/
def dense4 (X1 : Vec F S400x128 .f32) (X2 : Vec F S4x400x128 .f32) (X3 : Vec F S4x128x128 .f32) (X4 : Vec F S128x128 .f32) (X5 : Vec F S1x128 .f32) (X6 : Vec F S1x128 .f32) (X7 : Vec F S1x1 .f32) : Vec F S400x128 .f32 :=
  k4_pay1 (k4_pay2 X1) (k4_pay3 X1 X4 (slabA X2 0) (slabB X3 0) (slabA X2 1) (slabB X3 1) (slabA X2 2) (slabB X3 2)) (k4_pay4 (slabA X2 3)) (k4_pay5 (slabB X3 3))
    (constant S400x128 .f32 0x00000000#32) X5 X6 (X7 (ix2 0 0))

theorem body2 (𝒱 : Variants) (c : Dev nD) (bd : Option 𝒱.V) (E : Set ℕ) (i : grid2.Coords) (arg1 : Memref sig .tc .vmem S400x128 .f32) (harg1 : arg1.IsWhole)
    (arg2 : Memref sig .tc .vmem S4x400x128 .f32) (harg2 : arg2.IsWhole)
    (arg3 : Memref sig .tc .vmem S4x128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .smem S1x1 .f32) (harg7 : arg7.IsWhole)
    (arg8 : Memref sig .tc .vmem S400x128 .f32) (harg8 : arg8.IsWhole)
    (X1 : Vec F S400x128 .f32) (X2 : Vec F S4x400x128 .f32) (X3 : Vec F S4x128x128 .f32) (X4 : Vec F S128x128 .f32) (X5 : Vec F S1x128 .f32) (X6 : Vec F S1x128 .f32) (X7 : Vec F S1x1 .f32) (f : BufTy.Contents (Elt F) arg8.view.ty) :
    (iprop(opsD c arg1 arg2 arg3 arg4 arg5 arg6 arg7 X1 X2 X3 X4 X5 X6 X7 ∗ (arg8.view.loc (c : Thread nD τ) ↦[arg8.view.set]{fullShare} f)) : sProp 𝕄)
      ⊢ wp frame (wpE (defs₀ (F := F)) 𝒱 (c : Thread nD τ) bd) E (cc2__dense_body (F := F) i arg1 harg1 arg2 harg2 arg3 harg3 arg4 harg4 arg5 harg5 arg6 harg6 arg7 harg7 arg8 harg8)
          (fun _ => iprop(opsD c arg1 arg2 arg3 arg4 arg5 arg6 arg7 X1 X2 X3 X4 X5 X6 X7 ∗ (arg8.view.loc (c : Thread nD τ) ↦[arg8.view.set]{fullShare} arg8.view.rep (dense2 X1 X2 X3 X4 X5 X6)))) := by
  rw [cc2__dense_body_eq_skeleton]
  unfold cc2__dense_body_skel
  rw [k2_part1_eq_skeleton]
  unfold k2_part1_skel
  iintro ⟨⟨HR_arg1, HR_arg2, HR_arg3, HR_arg4, HR_arg5, HR_arg6, HR_arg7⟩, HW_arg8⟩
  sl_exec
  sl_step
  isplitr [HW_arg8]
  · isplitl [HR_arg1]; · iexact HR_arg1
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    iexact HR_arg7
  iapply (pointsTo_rep_of_read (c : Thread nD τ) arg8 _ _ _ ?_) $$ HW_arg8
  sl_unfold_run_names
  refine (View.read_writes_full _ _ _ _ _).trans ?_
  rw [View.readAt_rep_full arg1.view X1, View.readAt_rep_full arg4.view X4, View.readAt_rep_full arg5.view X5, View.readAt_rep_full arg6.view X6,
    slabA_read arg2 X2 0 ![0, 0, 0] _ rfl, slabA_read arg2 X2 1 ![1, 0, 0] _ rfl, slabA_read arg2 X2 2 ![2, 0, 0] _ rfl, slabA_read arg2 X2 3 ![3, 0, 0] _ rfl,
    slabB_read arg3 X3 0 ![0, 0, 0] _ rfl, slabB_read arg3 X3 1 ![1, 0, 0] _ rfl, slabB_read arg3 X3 2 ![2, 0, 0] _ rfl, slabB_read arg3 X3 3 ![3, 0, 0] _ rfl]

  rfl

theorem body4 (𝒱 : Variants) (c : Dev nD) (bd : Option 𝒱.V) (E : Set ℕ) (i : grid4.Coords) (arg1 : Memref sig .tc .vmem S400x128 .f32) (harg1 : arg1.IsWhole)
    (arg2 : Memref sig .tc .vmem S4x400x128 .f32) (harg2 : arg2.IsWhole)
    (arg3 : Memref sig .tc .vmem S4x128x128 .f32) (harg3 : arg3.IsWhole)
    (arg4 : Memref sig .tc .vmem S128x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .smem S1x1 .f32) (harg7 : arg7.IsWhole)
    (arg8 : Memref sig .tc .vmem S400x128 .f32) (harg8 : arg8.IsWhole)
    (X1 : Vec F S400x128 .f32) (X2 : Vec F S4x400x128 .f32) (X3 : Vec F S4x128x128 .f32) (X4 : Vec F S128x128 .f32) (X5 : Vec F S1x128 .f32) (X6 : Vec F S1x128 .f32) (X7 : Vec F S1x1 .f32) (f : BufTy.Contents (Elt F) arg8.view.ty) :
    (iprop(opsD c arg1 arg2 arg3 arg4 arg5 arg6 arg7 X1 X2 X3 X4 X5 X6 X7 ∗ (arg8.view.loc (c : Thread nD τ) ↦[arg8.view.set]{fullShare} f)) : sProp 𝕄)
      ⊢ wp frame (wpE (defs₀ (F := F)) 𝒱 (c : Thread nD τ) bd) E (cc4__dense_body (F := F) i arg1 harg1 arg2 harg2 arg3 harg3 arg4 harg4 arg5 harg5 arg6 harg6 arg7 harg7 arg8 harg8)
          (fun _ => iprop(opsD c arg1 arg2 arg3 arg4 arg5 arg6 arg7 X1 X2 X3 X4 X5 X6 X7 ∗ (arg8.view.loc (c : Thread nD τ) ↦[arg8.view.set]{fullShare} arg8.view.rep (dense4 X1 X2 X3 X4 X5 X6 X7)))) := by
  rw [cc4__dense_body_eq_skeleton]
  unfold cc4__dense_body_skel
  rw [k4_part1_eq_skeleton]
  unfold k4_part1_skel
  iintro ⟨⟨HR_arg1, HR_arg2, HR_arg3, HR_arg4, HR_arg5, HR_arg6, HR_arg7⟩, HW_arg8⟩
  sl_exec
  sl_step
  isplitr [HW_arg8]
  · isplitl [HR_arg1]; · iexact HR_arg1
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    iexact HR_arg7
  iapply (pointsTo_rep_of_read (c : Thread nD τ) arg8 _ _ _ ?_) $$ HW_arg8
  sl_unfold_run_names
  refine (View.read_writes_full _ _ _ _ _).trans ?_
  rw [View.readAt_rep_full arg1.view X1, View.readAt_rep_full arg4.view X4, View.readAt_rep_full arg5.view X5, View.readAt_rep_full arg6.view X6,
    slabA_read arg2 X2 0 ![0, 0, 0] _ rfl, slabA_read arg2 X2 1 ![1, 0, 0] _ rfl, slabA_read arg2 X2 2 ![2, 0, 0] _ rfl, slabA_read arg2 X2 3 ![3, 0, 0] _ rfl,
    slabB_read arg3 X3 0 ![0, 0, 0] _ rfl, slabB_read arg3 X3 1 ![1, 0, 0] _ rfl, slabB_read arg3 X3 2 ![2, 0, 0] _ rfl, slabB_read arg3 X3 3 ![3, 0, 0] _ rfl]
  rw [scale_read arg7 X7]
  rfl

end Cert.KernelIdeal.Body
-- ==== Proof.Region2.lean ====
/-
  The third call of the kernel, the first layer's dense part block by block of rows: its proof data and its body
  obligation.
-/
module

public import proofs.«01_k».proof.Proof.Common
public import proofs.«01_k».proof.Proof.Dense

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-- Block `t` of 400 rows, -/
def rows (A : Vec F S10000x128 .f32) (t : ℕ) : Vec F S400x128 .f32 :=
  fun y => A (ix2 ⟨(t * 400 + (y 0).val) % 10000, Nat.mod_lt _ (by decide)⟩ (y 1))

/-- and of the four sums. -/
def rows4 (A : Vec F S4x10000x128 .f32) (t : ℕ) : Vec F S4x400x128 .f32 :=
  fun y => A (ix3 (y 0) ⟨(t * 400 + (y 1).val) % 10000, Nat.mod_lt _ (by decide)⟩ (y 2))

variable (V : Vals F)

/-- The call's proof data from an entry valuation: the blocks and the arrays as staged, the block of results. -/
def dat2 (c : Dev nD) : Dat τ (Elt F) Unit ℕ (UR sig nD τ) ℕ cfg2 c where
  A w := at_ V c (Pipeline.arrRef spec2 w)
  after w t := match w with
    | ⟨0, _⟩ => rows (at_ V c main_arg0) t.val
    | ⟨1, _⟩ => rows4 (at_ V c main_v13) t.val
    | ⟨2, _⟩ => at_ V c main_arg3
    | ⟨3, _⟩ => at_ V c main_arg5
    | ⟨4, _⟩ => at_ V c main_v7
    | ⟨5, _⟩ => at_ V c main_v8
    | ⟨6, _⟩ => at_ V c main_v11
    | ⟨7, _⟩ => dense2 (rows (at_ V c main_arg0) t.val) (rows4 (at_ V c main_v13) t.val) (at_ V c main_arg3) (at_ V c main_arg5) (at_ V c main_v7) (at_ V c main_v8)
  Φ _ := iprop(Pipeline.scopedRest (Ix := Unit) (Name := ℕ) (U := UR sig nD τ) (Lvl := ℕ) (Val := Elt F) spec2 c ∗ ∃ r, prngReg c r)
  q _ := fullShare
  owed _ := 0

theorem blk2_0 (c : Dev nD) (t : Fin cfg2.N) : (dat2 V c).blockOf 0 t = rows (at_ V c main_arg0) t.val := by
  funext y
  refine congrArg (at_ V c main_arg0) ?_
  funext a
  refine Fin.ext ?_
  refine ((cfg2.win 0).rect_emb_val t y a).trans ?_
  have ht : t.val < 25 := t.isLt
  have h0 : (y 0).val < 400 := (y 0).isLt
  fin_cases a
  · show (BitVec.ofNat 32 (grid2.coords t 0).val).toNat * 400 + (y 0).val = (t.val * 400 + (y 0).val) % 10000
    rw [tick25]
    omega
  · show 0 * 128 + (y 1).val = (y 1).val
    omega

theorem before2_0 (c : Dev nD) (t : Fin cfg2.N) (d) : (dat2 V c).before 0 t d = rows (at_ V c main_arg0) t.val :=
  ((dat2 V c).before_fetched 0 t (fetch2_0 t) d).trans (blk2_0 V c t)

theorem blk2_1 (c : Dev nD) (t : Fin cfg2.N) : (dat2 V c).blockOf 1 t = rows4 (at_ V c main_v13) t.val := by
  funext y
  refine congrArg (at_ V c main_v13) ?_
  funext a
  refine Fin.ext ?_
  refine ((cfg2.win 1).rect_emb_val t y a).trans ?_
  have ht : t.val < 25 := t.isLt
  have h0 : (y 1).val < 400 := (y 1).isLt
  fin_cases a
  · show 0 * 4 + (y 0).val = (y 0).val
    omega
  · show (BitVec.ofNat 32 (grid2.coords t 0).val).toNat * 400 + (y 1).val = (t.val * 400 + (y 1).val) % 10000
    rw [tick25]
    omega
  · show 0 * 128 + (y 2).val = (y 2).val
    omega

theorem before2_1 (c : Dev nD) (t : Fin cfg2.N) (d) : (dat2 V c).before 1 t d = rows4 (at_ V c main_v13) t.val :=
  ((dat2 V c).before_fetched 1 t (fetch2_1 t) d).trans (blk2_1 V c t)

theorem blk2_2 (c : Dev nD) (t : Fin cfg2.N) : (dat2 V c).blockOf 2 t = at_ V c main_arg3 := by
  funext y
  exact congrArg (at_ V c main_arg3) (funext fun a => Fin.ext ((cfg2.win 2).rect_emb_val_of_index_zero t a (by fin_cases a <;> rfl) y))

theorem before2_2 (c : Dev nD) (t : Fin cfg2.N) (d) : (dat2 V c).before 2 t d = at_ V c main_arg3 :=
  ((dat2 V c).before_in_eq_fetched 2 rfl (fun _ => rfl) (fun _ _ _ => rfl) (fun t => (blk2_2 V c t).symm) t d).trans (blk2_2 V c t)

theorem blk2_3 (c : Dev nD) (t : Fin cfg2.N) : (dat2 V c).blockOf 3 t = at_ V c main_arg5 := by
  funext y
  exact congrArg (at_ V c main_arg5) (funext fun a => Fin.ext ((cfg2.win 3).rect_emb_val_of_index_zero t a (by fin_cases a <;> rfl) y))

theorem before2_3 (c : Dev nD) (t : Fin cfg2.N) (d) : (dat2 V c).before 3 t d = at_ V c main_arg5 :=
  ((dat2 V c).before_in_eq_fetched 3 rfl (fun _ => rfl) (fun _ _ _ => rfl) (fun t => (blk2_3 V c t).symm) t d).trans (blk2_3 V c t)

theorem blk2_4 (c : Dev nD) (t : Fin cfg2.N) : (dat2 V c).blockOf 4 t = at_ V c main_v7 := by
  funext y
  exact congrArg (at_ V c main_v7) (funext fun a => Fin.ext ((cfg2.win 4).rect_emb_val_of_index_zero t a (by fin_cases a <;> rfl) y))

theorem before2_4 (c : Dev nD) (t : Fin cfg2.N) (d) : (dat2 V c).before 4 t d = at_ V c main_v7 :=
  ((dat2 V c).before_in_eq_fetched 4 rfl (fun _ => rfl) (fun _ _ _ => rfl) (fun t => (blk2_4 V c t).symm) t d).trans (blk2_4 V c t)

theorem blk2_5 (c : Dev nD) (t : Fin cfg2.N) : (dat2 V c).blockOf 5 t = at_ V c main_v8 := by
  funext y
  exact congrArg (at_ V c main_v8) (funext fun a => Fin.ext ((cfg2.win 5).rect_emb_val_of_index_zero t a (by fin_cases a <;> rfl) y))

theorem before2_5 (c : Dev nD) (t : Fin cfg2.N) (d) : (dat2 V c).before 5 t d = at_ V c main_v8 :=
  ((dat2 V c).before_in_eq_fetched 5 rfl (fun _ => rfl) (fun _ _ _ => rfl) (fun t => (blk2_5 V c t).symm) t d).trans (blk2_5 V c t)

theorem blk2_6 (c : Dev nD) (t : Fin cfg2.N) : (dat2 V c).blockOf 6 t = at_ V c main_v11 := by
  funext y
  exact congrArg (at_ V c main_v11) (funext fun a => Fin.ext ((cfg2.win 6).rect_emb_val_of_index_zero t a (by fin_cases a <;> rfl) y))

theorem before2_6 (c : Dev nD) (t : Fin cfg2.N) (d) : (dat2 V c).before 6 t d = at_ V c main_v11 :=
  ((dat2 V c).before_in_eq_fetched 6 rfl (fun _ => rfl) (fun _ _ _ => rfl) (fun t => (blk2_6 V c t).symm) t d).trans (blk2_6 V c t)

theorem body_obligation2 (c : Dev nD) : BodyObligation (dat2 V c) (defs₀ (F := F)) 𝒱₀ () Set.univ := fun t => by
  rw [bigSep_W2, bigSep_W2]
  rw [show (dat2 V c).Φ t.succ = (dat2 V c).Φ t.castSucc from rfl,
    show (dat2 V c).owesAt () t.succ = (dat2 V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before2_0, before2_1, before2_2, before2_3, before2_4, before2_5, before2_6]
  ihave H0 := (owns_rep c (st2_0 t) _) $$ H0
  ihave H1 := (owns_rep c (st2_1 t) _) $$ H1
  ihave H2 := (owns_rep c (st2_2 t) _) $$ H2
  ihave H3 := (owns_rep c (st2_3 t) _) $$ H3
  ihave H4 := (owns_rep c (st2_4 t) _) $$ H4
  ihave H5 := (owns_rep c (st2_5 t) _) $$ H5
  ihave H6 := (owns_rep c (st2_6 t) _) $$ H6
  ihave H7 := (owns_rep c (st2_7 t) _) $$ H7
  iapply (wp_wand_r _ _ _)
  isplitr [HΦ Howes]
  · iapply (body2 𝒱₀ c none Set.univ (grid2.coords t) (st2_0 t) (hstage2_0 _) (st2_1 t) (hstage2_1 _) (st2_2 t) (hstage2_2 _) (st2_3 t) (hstage2_3 _) (st2_4 t) (hstage2_4 _) (st2_5 t) (hstage2_5 _) (st2_6 t) (hstage2_6 _) (st2_7 t) (hstage2_7 _)
      _ _ _ _ _ _ _ _)
    isplitr [H7]
    · isplitl [H0]; · iexact H0
      isplitl [H1]; · iexact H1
      isplitl [H2]; · iexact H2
      isplitl [H3]; · iexact H3
      isplitl [H4]; · iexact H4
      isplitl [H5]; · iexact H5
      iexact H6
    iexact H7
  iintro %_ ⟨⟨H0, H1, H2, H3, H4, H5, H6⟩, H7⟩
  isplitl [HΦ]; · iexact HΦ
  isplitl [Howes]; · iexact Howes
  isplitl [H0]; · iapply (rep_owns c (st2_0 t) _) $$ H0
  isplitl [H1]; · iapply (rep_owns c (st2_1 t) _) $$ H1
  isplitl [H2]; · iapply (rep_owns c (st2_2 t) _) $$ H2
  isplitl [H3]; · iapply (rep_owns c (st2_3 t) _) $$ H3
  isplitl [H4]; · iapply (rep_owns c (st2_4 t) _) $$ H4
  isplitl [H5]; · iapply (rep_owns c (st2_5 t) _) $$ H5
  isplitl [H6]; · iapply (rep_owns c (st2_6 t) _) $$ H6
  iapply (rep_owns c (st2_7 t) _) $$ H7

end Cert.KernelIdeal.Body

end
-- ==== Proof.Region4.lean ====
/-
  The fifth call of the kernel, the second layer's dense part block by block of rows: its proof data and its body
  obligation.
-/
module

public import proofs.«01_k».proof.Proof.Region2

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (V : Vals F)

/-- The call's proof data from an entry valuation: the blocks and the arrays as staged, the block of results. -/
def dat4 (c : Dev nD) : Dat τ (Elt F) Unit ℕ (UR sig nD τ) ℕ cfg4 c where
  A w := at_ V c (Pipeline.arrRef spec4 w)
  after w t := match w with
    | ⟨0, _⟩ => rows (at_ V c main_v14) t.val
    | ⟨1, _⟩ => rows4 (at_ V c main_v15) t.val
    | ⟨2, _⟩ => at_ V c main_arg8
    | ⟨3, _⟩ => at_ V c main_arg10
    | ⟨4, _⟩ => at_ V c main_v9
    | ⟨5, _⟩ => at_ V c main_v10
    | ⟨6, _⟩ => at_ V c main_v11
    | ⟨7, _⟩ => dense4 (rows (at_ V c main_v14) t.val) (rows4 (at_ V c main_v15) t.val) (at_ V c main_arg8) (at_ V c main_arg10) (at_ V c main_v9) (at_ V c main_v10) (at_ V c main_v11)
  Φ _ := iprop(Pipeline.scopedRest (Ix := Unit) (Name := ℕ) (U := UR sig nD τ) (Lvl := ℕ) (Val := Elt F) spec4 c ∗ ∃ r, prngReg c r)
  q _ := fullShare
  owed _ := 0

theorem blk4_0 (c : Dev nD) (t : Fin cfg4.N) : (dat4 V c).blockOf 0 t = rows (at_ V c main_v14) t.val := by
  funext y
  refine congrArg (at_ V c main_v14) ?_
  funext a
  refine Fin.ext ?_
  refine ((cfg4.win 0).rect_emb_val t y a).trans ?_
  have ht : t.val < 25 := t.isLt
  have h0 : (y 0).val < 400 := (y 0).isLt
  fin_cases a
  · show (BitVec.ofNat 32 (grid2.coords t 0).val).toNat * 400 + (y 0).val = (t.val * 400 + (y 0).val) % 10000
    rw [tick25]
    omega
  · show 0 * 128 + (y 1).val = (y 1).val
    omega

theorem before4_0 (c : Dev nD) (t : Fin cfg4.N) (d) : (dat4 V c).before 0 t d = rows (at_ V c main_v14) t.val :=
  ((dat4 V c).before_fetched 0 t (fetch4_0 t) d).trans (blk4_0 V c t)

theorem blk4_1 (c : Dev nD) (t : Fin cfg4.N) : (dat4 V c).blockOf 1 t = rows4 (at_ V c main_v15) t.val := by
  funext y
  refine congrArg (at_ V c main_v15) ?_
  funext a
  refine Fin.ext ?_
  refine ((cfg4.win 1).rect_emb_val t y a).trans ?_
  have ht : t.val < 25 := t.isLt
  have h0 : (y 1).val < 400 := (y 1).isLt
  fin_cases a
  · show 0 * 4 + (y 0).val = (y 0).val
    omega
  · show (BitVec.ofNat 32 (grid2.coords t 0).val).toNat * 400 + (y 1).val = (t.val * 400 + (y 1).val) % 10000
    rw [tick25]
    omega
  · show 0 * 128 + (y 2).val = (y 2).val
    omega

theorem before4_1 (c : Dev nD) (t : Fin cfg4.N) (d) : (dat4 V c).before 1 t d = rows4 (at_ V c main_v15) t.val :=
  ((dat4 V c).before_fetched 1 t (fetch4_1 t) d).trans (blk4_1 V c t)

theorem blk4_2 (c : Dev nD) (t : Fin cfg4.N) : (dat4 V c).blockOf 2 t = at_ V c main_arg8 := by
  funext y
  exact congrArg (at_ V c main_arg8) (funext fun a => Fin.ext ((cfg4.win 2).rect_emb_val_of_index_zero t a (by fin_cases a <;> rfl) y))

theorem before4_2 (c : Dev nD) (t : Fin cfg4.N) (d) : (dat4 V c).before 2 t d = at_ V c main_arg8 :=
  ((dat4 V c).before_in_eq_fetched 2 rfl (fun _ => rfl) (fun _ _ _ => rfl) (fun t => (blk4_2 V c t).symm) t d).trans (blk4_2 V c t)

theorem blk4_3 (c : Dev nD) (t : Fin cfg4.N) : (dat4 V c).blockOf 3 t = at_ V c main_arg10 := by
  funext y
  exact congrArg (at_ V c main_arg10) (funext fun a => Fin.ext ((cfg4.win 3).rect_emb_val_of_index_zero t a (by fin_cases a <;> rfl) y))

theorem before4_3 (c : Dev nD) (t : Fin cfg4.N) (d) : (dat4 V c).before 3 t d = at_ V c main_arg10 :=
  ((dat4 V c).before_in_eq_fetched 3 rfl (fun _ => rfl) (fun _ _ _ => rfl) (fun t => (blk4_3 V c t).symm) t d).trans (blk4_3 V c t)

theorem blk4_4 (c : Dev nD) (t : Fin cfg4.N) : (dat4 V c).blockOf 4 t = at_ V c main_v9 := by
  funext y
  exact congrArg (at_ V c main_v9) (funext fun a => Fin.ext ((cfg4.win 4).rect_emb_val_of_index_zero t a (by fin_cases a <;> rfl) y))

theorem before4_4 (c : Dev nD) (t : Fin cfg4.N) (d) : (dat4 V c).before 4 t d = at_ V c main_v9 :=
  ((dat4 V c).before_in_eq_fetched 4 rfl (fun _ => rfl) (fun _ _ _ => rfl) (fun t => (blk4_4 V c t).symm) t d).trans (blk4_4 V c t)

theorem blk4_5 (c : Dev nD) (t : Fin cfg4.N) : (dat4 V c).blockOf 5 t = at_ V c main_v10 := by
  funext y
  exact congrArg (at_ V c main_v10) (funext fun a => Fin.ext ((cfg4.win 5).rect_emb_val_of_index_zero t a (by fin_cases a <;> rfl) y))

theorem before4_5 (c : Dev nD) (t : Fin cfg4.N) (d) : (dat4 V c).before 5 t d = at_ V c main_v10 :=
  ((dat4 V c).before_in_eq_fetched 5 rfl (fun _ => rfl) (fun _ _ _ => rfl) (fun t => (blk4_5 V c t).symm) t d).trans (blk4_5 V c t)

theorem blk4_6 (c : Dev nD) (t : Fin cfg4.N) : (dat4 V c).blockOf 6 t = at_ V c main_v11 := by
  funext y
  exact congrArg (at_ V c main_v11) (funext fun a => Fin.ext ((cfg4.win 6).rect_emb_val_of_index_zero t a (by fin_cases a <;> rfl) y))

theorem before4_6 (c : Dev nD) (t : Fin cfg4.N) (d) : (dat4 V c).before 6 t d = at_ V c main_v11 :=
  ((dat4 V c).before_in_eq_fetched 6 rfl (fun _ => rfl) (fun _ _ _ => rfl) (fun t => (blk4_6 V c t).symm) t d).trans (blk4_6 V c t)

theorem body_obligation4 (c : Dev nD) : BodyObligation (dat4 V c) (defs₀ (F := F)) 𝒱₀ () Set.univ := fun t => by
  rw [bigSep_W4, bigSep_W4]
  rw [show (dat4 V c).Φ t.succ = (dat4 V c).Φ t.castSucc from rfl,
    show (dat4 V c).owesAt () t.succ = (dat4 V c).owesAt () t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before4_0, before4_1, before4_2, before4_3, before4_4, before4_5, before4_6]
  ihave H0 := (owns_rep c (st4_0 t) _) $$ H0
  ihave H1 := (owns_rep c (st4_1 t) _) $$ H1
  ihave H2 := (owns_rep c (st4_2 t) _) $$ H2
  ihave H3 := (owns_rep c (st4_3 t) _) $$ H3
  ihave H4 := (owns_rep c (st4_4 t) _) $$ H4
  ihave H5 := (owns_rep c (st4_5 t) _) $$ H5
  ihave H6 := (owns_rep c (st4_6 t) _) $$ H6
  ihave H7 := (owns_rep c (st4_7 t) _) $$ H7
  iapply (wp_wand_r _ _ _)
  isplitr [HΦ Howes]
  · iapply (body4 𝒱₀ c none Set.univ (grid4.coords t) (st4_0 t) (hstage4_0 _) (st4_1 t) (hstage4_1 _) (st4_2 t) (hstage4_2 _) (st4_3 t) (hstage4_3 _) (st4_4 t) (hstage4_4 _) (st4_5 t) (hstage4_5 _) (st4_6 t) (hstage4_6 _) (st4_7 t) (hstage4_7 _)
      _ _ _ _ _ _ _ _)
    isplitr [H7]
    · isplitl [H0]; · iexact H0
      isplitl [H1]; · iexact H1
      isplitl [H2]; · iexact H2
      isplitl [H3]; · iexact H3
      isplitl [H4]; · iexact H4
      isplitl [H5]; · iexact H5
      iexact H6
    iexact H7
  iintro %_ ⟨⟨H0, H1, H2, H3, H4, H5, H6⟩, H7⟩
  isplitl [HΦ]; · iexact HΦ
  isplitl [Howes]; · iexact Howes
  isplitl [H0]; · iapply (rep_owns c (st4_0 t) _) $$ H0
  isplitl [H1]; · iapply (rep_owns c (st4_1 t) _) $$ H1
  isplitl [H2]; · iapply (rep_owns c (st4_2 t) _) $$ H2
  isplitl [H3]; · iapply (rep_owns c (st4_3 t) _) $$ H3
  isplitl [H4]; · iapply (rep_owns c (st4_4 t) _) $$ H4
  isplitl [H5]; · iapply (rep_owns c (st4_5 t) _) $$ H5
  isplitl [H6]; · iapply (rep_owns c (st4_6 t) _) $$ H6
  iapply (rep_owns c (st4_7 t) _) $$ H7

end Cert.KernelIdeal.Body

end
-- ==== Proof.Run.lean ====
/-
  The whole program: its five calls one after the other, each entered from the buffers as the call before left them
  (`W1` at the first call's entry, `W6` at the end), and the run theorem, which reads every buffer of the final state
  off `W6`.
-/
module

public import proofs.«01_k».proof.Proof.Region0
public import proofs.«01_k».proof.Proof.Region3
public import proofs.«01_k».proof.Proof.Region4

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg)

variable {F : FTy → Type} [FloatOps F]

local notation "𝕄" => MT nD τ sig Unit (Elt F) ℕ (UR sig nD τ) ℕ

variable (m : (ℓ : Loc nD τ sig) → Buf (Elt F) ℓ)

/-- The buffers at the first call's entry, and after each call. -/
def W1 : Vals F := fun c => V1 m c
def W2 : Vals F := fun c => Pipeline.afterRegion (dat0 (W1 m) c) (W1 m c)
def W3 : Vals F := fun c => Pipeline.afterRegion (dat1 (W2 m) c) (W2 m c)
def W4 : Vals F := fun c => Pipeline.afterRegion (dat2 (W3 m) c) (W3 m c)
def W5 : Vals F := fun c => Pipeline.afterRegion (dat3 (W4 m) c) (W4 m c)
def W6 : Vals F := fun c => Pipeline.afterRegion (dat4 (W5 m) c) (W5 m c)

/-- A buffer other than a call's result is left by the call as it was. -/
theorem W2_of (c : Dev nD) (r : Ref sig .tc) (h : r ≠ main_v12) : at_ (W2 m) c r = at_ (W1 m) c r :=
  Pipeline.afterRegion_keeps (dat0 (W1 m) c) (W1 m c) winFacts0.arr_inj (fun _ => rfl) r
    (by intro w hw; fin_cases w <;> first | rfl | exact absurd hw.symm h)
theorem W3_of (c : Dev nD) (r : Ref sig .tc) (h : r ≠ main_v13) : at_ (W3 m) c r = at_ (W2 m) c r :=
  Pipeline.afterRegion_keeps (dat1 (W2 m) c) (W2 m c) winFacts1.arr_inj (fun _ => rfl) r
    (by intro w hw; fin_cases w <;> first | rfl | exact absurd hw.symm h)
theorem W4_of (c : Dev nD) (r : Ref sig .tc) (h : r ≠ main_v14) : at_ (W4 m) c r = at_ (W3 m) c r :=
  Pipeline.afterRegion_keeps (dat2 (W3 m) c) (W3 m c) winFacts2.arr_inj (fun _ => rfl) r
    (by intro w hw; fin_cases w <;> first | rfl | exact absurd hw.symm h)
theorem W5_of (c : Dev nD) (r : Ref sig .tc) (h : r ≠ main_v15) : at_ (W5 m) c r = at_ (W4 m) c r :=
  Pipeline.afterRegion_keeps (dat3 (W4 m) c) (W4 m c) winFacts3.arr_inj (fun _ => rfl) r
    (by intro w hw; fin_cases w <;> first | rfl | exact absurd hw.symm h)
theorem W6_of (c : Dev nD) (r : Ref sig .tc) (h : r ≠ main_v16) : at_ (W6 m) c r = at_ (W5 m) c r :=
  Pipeline.afterRegion_keeps (dat4 (W5 m) c) (W5 m c) winFacts4.arr_inj (fun _ => rfl) r
    (by intro w hw; fin_cases w <;> first | rfl | exact absurd hw.symm h)

/-- The index words the calls read are node and relation numbers. -/
structure InRange : Prop where
  src : ∀ c (y : S40x1x8000.Idx), (at_ (W1 m) c main_v2 y).toNat < 10000
  dst : ∀ c (y : S40x1x8000.Idx), (at_ (W1 m) c main_v5 y).toNat < 10000
  rel : ∀ c (y : S40x1x8000.Idx), (at_ (W1 m) c main_v6 y).toNat < 16

/-- Every call's proof data, from the buffers at its entry. -/
def pdats : (p : Fin 5) → (c : Dev nD) → Dat τ (Elt F) Unit ℕ (UR sig nD τ) ℕ (cfgs p) c
  | ⟨0, _⟩ => fun c => dat0 (W1 m) c
  | ⟨1, _⟩ => fun c => dat1 (W2 m) c
  | ⟨2, _⟩ => fun c => dat2 (W3 m) c
  | ⟨3, _⟩ => fun c => dat3 (W4 m) c
  | ⟨4, _⟩ => fun c => dat4 (W5 m) c

abbrev L : GSem nD τ sig → Finset Unit := fun g => if g.1.2 = .tc then {()} else ∅
abbrev lv : GSem nD τ sig → Unit → ℕ := fun _ _ => 0

/-- What rides along beside the buffers: the generator register and what the core owes, nothing. -/
abbrev rest (c : Dev nD) : sProp 𝕄 :=
  iprop((∃ Wd, owes (c : Thread nD τ) (0 : CellTallies nD τ sig Unit) Wd) ∗ (∃ r, prngReg c r) ∗ emp)

abbrev XR (c : Dev nD) : sProp 𝕄 := iprop(∃ r, prngReg c r)

theorem cut (p : Fin 5) : Pipeline.LevelCut (pcfgs (F := F)) adm () L lv p (fun _ : Dev nD => (0 : CellTallies nD τ sig Unit)) (fun _ => 0) where
  hι c w s := by simp [L]
  hιb _ _ _ := le_refl _
  hD _ _ _ h := absurd h (lt_irrefl _)

section Segs

variable {m}

/-- The index words are the same at every call's entry. -/
theorem InRange.at4 (h : InRange m) (c : Dev nD) (r : Ref sig .tc) (h1 : r ≠ main_v12) (h2 : r ≠ main_v13) (h3 : r ≠ main_v14) :
    at_ (W4 m) c r = at_ (W1 m) c r :=
  (W4_of m c r h3).trans ((W3_of m c r h2).trans (W2_of m c r h1))

variable (h : InRange m)

def seg_0 : RegionSeg (pcfgs (F := F)) adm (pdats m) () defs₀ 𝒱₀ L lv 0 :=
  RegionSeg.ofHeldIn (pcfgs (F := F)) adm (pdats m) () defs₀ 𝒱₀ L lv 0 (fun _ => 0) (Pipeline.ucRefs τ sig) XR XR launch0.toP rfl
    (fun c => (body_obligation0 (W1 m) c (h.dst c)).loose) (fun _ _ => rfl) (fun _ => rfl)
    (fun c => Dat.share_full (dat0 (W1 m) c) fun _ => rfl) (fun _ => BI.Entails.refl _) (fun _ => BI.Entails.refl _) (fun _ => 0) (cut 0) (fun _ => iprop(emp))
    (W1 m) (fun _ _ => rfl)

def seg_1 : RegionSeg (pcfgs (F := F)) adm (pdats m) () defs₀ 𝒱₀ L lv 1 :=
  RegionSeg.ofHeldIn (pcfgs (F := F)) adm (pdats m) () defs₀ 𝒱₀ L lv 1 (fun _ => 0) (Pipeline.ucRefs τ sig) XR XR launch1.toP rfl
    (fun c => (body_obligation1 (W2 m) c
      (fun y => by rw [W2_of m c main_v2 (by decide)]; exact h.src c y)
      (fun y => by rw [W2_of m c main_v5 (by decide)]; exact h.dst c y)
      (fun y => by rw [W2_of m c main_v6 (by decide)]; exact h.rel c y)).loose) (fun _ _ => rfl) (fun _ => rfl)
    (fun c => Dat.share_full (dat1 (W2 m) c) fun _ => rfl) (fun _ => BI.Entails.refl _) (fun _ => BI.Entails.refl _) (fun _ => 0) (cut 1) (fun _ => iprop(emp))
    (W2 m) (fun _ _ => rfl)

def seg_2 : RegionSeg (pcfgs (F := F)) adm (pdats m) () defs₀ 𝒱₀ L lv 2 :=
  RegionSeg.ofHeldIn (pcfgs (F := F)) adm (pdats m) () defs₀ 𝒱₀ L lv 2 (fun _ => 0) (Pipeline.ucRefs τ sig) XR XR launch2.toP rfl
    (fun c => (body_obligation2 (W3 m) c ).loose) (fun _ _ => rfl) (fun _ => rfl)
    (fun c => Dat.share_full (dat2 (W3 m) c) fun _ => rfl) (fun _ => BI.Entails.refl _) (fun _ => BI.Entails.refl _) (fun _ => 0) (cut 2) (fun _ => iprop(emp))
    (W3 m) (fun _ _ => rfl)

def seg_3 : RegionSeg (pcfgs (F := F)) adm (pdats m) () defs₀ 𝒱₀ L lv 3 :=
  RegionSeg.ofHeldIn (pcfgs (F := F)) adm (pdats m) () defs₀ 𝒱₀ L lv 3 (fun _ => 0) (Pipeline.ucRefs τ sig) XR XR launch3.toP rfl
    (fun c => (body_obligation3 (W4 m) c
      (fun y => by rw [h.at4 c main_v2 (by decide) (by decide) (by decide)]; exact h.src c y)
      (fun y => by rw [h.at4 c main_v5 (by decide) (by decide) (by decide)]; exact h.dst c y)
      (fun y => by rw [h.at4 c main_v6 (by decide) (by decide) (by decide)]; exact h.rel c y)).loose) (fun _ _ => rfl) (fun _ => rfl)
    (fun c => Dat.share_full (dat3 (W4 m) c) fun _ => rfl) (fun _ => BI.Entails.refl _) (fun _ => BI.Entails.refl _) (fun _ => 0) (cut 3) (fun _ => iprop(emp))
    (W4 m) (fun _ _ => rfl)

def seg_4 : RegionSeg (pcfgs (F := F)) adm (pdats m) () defs₀ 𝒱₀ L lv 4 :=
  RegionSeg.ofHeldIn (pcfgs (F := F)) adm (pdats m) () defs₀ 𝒱₀ L lv 4 (fun _ => 0) (Pipeline.ucRefs τ sig) XR XR launch4.toP rfl
    (fun c => (body_obligation4 (W5 m) c ).loose) (fun _ _ => rfl) (fun _ => rfl)
    (fun c => Dat.share_full (dat4 (W5 m) c) fun _ => rfl) (fun _ => BI.Entails.refl _) (fun _ => BI.Entails.refl _) (fun _ => 0) (cut 4) (fun _ => iprop(emp))
    (W5 m) (fun _ _ => rfl)

theorem sub0 : Pipeline.arrRefs (τ := τ) spec0 ⊆ Pipeline.ucRefs τ sig := Pipeline.arrRefs_sub_ucRefs _ (by decide)
theorem sub1 : Pipeline.arrRefs (τ := τ) spec1 ⊆ Pipeline.ucRefs τ sig := Pipeline.arrRefs_sub_ucRefs _ (by decide)
theorem sub2 : Pipeline.arrRefs (τ := τ) spec2 ⊆ Pipeline.ucRefs τ sig := Pipeline.arrRefs_sub_ucRefs _ (by decide)
theorem sub3 : Pipeline.arrRefs (τ := τ) spec3 ⊆ Pipeline.ucRefs τ sig := Pipeline.arrRefs_sub_ucRefs _ (by decide)
theorem sub4 : Pipeline.arrRefs (τ := τ) spec4 ⊆ Pipeline.ucRefs τ sig := Pipeline.arrRefs_sub_ucRefs _ (by decide)

theorem pre_0 (h : InRange m) (c : Dev nD) : (iprop(StableHlo.held (c : Thread nD τ) (Pipeline.ucRefs τ sig) (W1 m c) ∗ rest c) : sProp 𝕄) ⊢ (seg_0 h).pre c := by
  exact RegionSeg.ofHeldIn_pre (pcs := pcfgs (F := F)) (a := adm) (pdats := pdats m) (ι := ()) (defs₀ := defs₀) (𝒱₀ := 𝒱₀) (L := L) (lv := lv) (p := 0)
    (D := fun _ => 0) (X := XR) (Y := XR) (R := fun _ => iprop(emp)) (W := W1 m) sub0 c
theorem post_0 (h : InRange m) (c : Dev nD) : (seg_0 h).post c ⊢ (iprop(StableHlo.held (c : Thread nD τ) (Pipeline.ucRefs τ sig) (W2 m c) ∗ rest c) : sProp 𝕄) := by
  refine RegionSeg.ofHeldIn_post ?_ c
  exact sub0
theorem pre_1 (h : InRange m) (c : Dev nD) : (iprop(StableHlo.held (c : Thread nD τ) (Pipeline.ucRefs τ sig) (W2 m c) ∗ rest c) : sProp 𝕄) ⊢ (seg_1 h).pre c := by
  exact RegionSeg.ofHeldIn_pre (pcs := pcfgs (F := F)) (a := adm) (pdats := pdats m) (ι := ()) (defs₀ := defs₀) (𝒱₀ := 𝒱₀) (L := L) (lv := lv) (p := 1)
    (D := fun _ => 0) (X := XR) (Y := XR) (R := fun _ => iprop(emp)) (W := W2 m) sub1 c
theorem post_1 (h : InRange m) (c : Dev nD) : (seg_1 h).post c ⊢ (iprop(StableHlo.held (c : Thread nD τ) (Pipeline.ucRefs τ sig) (W3 m c) ∗ rest c) : sProp 𝕄) := by
  refine RegionSeg.ofHeldIn_post ?_ c
  exact sub1
theorem pre_2 (c : Dev nD) : (iprop(StableHlo.held (c : Thread nD τ) (Pipeline.ucRefs τ sig) (W3 m c) ∗ rest c) : sProp 𝕄) ⊢ (seg_2 (m := m)).pre c := by
  exact RegionSeg.ofHeldIn_pre (pcs := pcfgs (F := F)) (a := adm) (pdats := pdats m) (ι := ()) (defs₀ := defs₀) (𝒱₀ := 𝒱₀) (L := L) (lv := lv) (p := 2)
    (D := fun _ => 0) (X := XR) (Y := XR) (R := fun _ => iprop(emp)) (W := W3 m) sub2 c
theorem post_2 (c : Dev nD) : (seg_2 (m := m)).post c ⊢ (iprop(StableHlo.held (c : Thread nD τ) (Pipeline.ucRefs τ sig) (W4 m c) ∗ rest c) : sProp 𝕄) := by
  refine RegionSeg.ofHeldIn_post ?_ c
  exact sub2
theorem pre_3 (h : InRange m) (c : Dev nD) : (iprop(StableHlo.held (c : Thread nD τ) (Pipeline.ucRefs τ sig) (W4 m c) ∗ rest c) : sProp 𝕄) ⊢ (seg_3 h).pre c := by
  exact RegionSeg.ofHeldIn_pre (pcs := pcfgs (F := F)) (a := adm) (pdats := pdats m) (ι := ()) (defs₀ := defs₀) (𝒱₀ := 𝒱₀) (L := L) (lv := lv) (p := 3)
    (D := fun _ => 0) (X := XR) (Y := XR) (R := fun _ => iprop(emp)) (W := W4 m) sub3 c
theorem post_3 (h : InRange m) (c : Dev nD) : (seg_3 h).post c ⊢ (iprop(StableHlo.held (c : Thread nD τ) (Pipeline.ucRefs τ sig) (W5 m c) ∗ rest c) : sProp 𝕄) := by
  refine RegionSeg.ofHeldIn_post ?_ c
  exact sub3
theorem pre_4 (c : Dev nD) : (iprop(StableHlo.held (c : Thread nD τ) (Pipeline.ucRefs τ sig) (W5 m c) ∗ rest c) : sProp 𝕄) ⊢ (seg_4 (m := m)).pre c := by
  exact RegionSeg.ofHeldIn_pre (pcs := pcfgs (F := F)) (a := adm) (pdats := pdats m) (ι := ()) (defs₀ := defs₀) (𝒱₀ := 𝒱₀) (L := L) (lv := lv) (p := 4)
    (D := fun _ => 0) (X := XR) (Y := XR) (R := fun _ => iprop(emp)) (W := W5 m) sub4 c
theorem post_4 (c : Dev nD) : (seg_4 (m := m)).post c ⊢ (iprop(StableHlo.held (c : Thread nD τ) (Pipeline.ucRefs τ sig) (W6 m c) ∗ rest c) : sProp 𝕄) := by
  refine RegionSeg.ofHeldIn_post ?_ c
  exact sub4

end Segs

set_option backward.isDefEq.respectTransparency.types false in
/-- The run: from any memory whose index words are in range every execution ends, with every unscoped buffer of the
    main core as `W6` has it and every counter at zero. -/
theorem run (ρ : Dev nD → PrngReg) (h : InRange m) :
    θ_run defs (onTc (τ := τ) (main (F := F))) ⟨m, fun _ => 0, ρ⟩ (fun r =>
      (∀ c : Dev nD, ∀ b ∈ Pipeline.ucRefs τ sig, r.2.mem (((c : Thread nD τ).1, b) : Loc nD τ sig) = W6 m c b) ∧ r.2.sem = fun _ => 0) := by
  refine Pipeline.θ_run_regions_kit_dev_sems (pcfgs (F := F)) adm (pdats m) () cellOf_inj emb₁ defs₀ 𝒱₀ L lv m ρ main
    (segs m 𝒱₀ L lv (fun _ => rest) () (pdats m) (seg_0 h) (seg_1 h) seg_2 (seg_3 h) seg_4)
    (fun c Q => by
      rewrite [main_chain c, Seg.run_eq_chain,
        show (segs m 𝒱₀ L lv (fun _ => rest) () (pdats m) (seg_0 h) (seg_1 h) seg_2 (seg_3 h) seg_4 c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()) ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (W6 m c))
    (hch := fun c => ⟨.rfl, pre_0 h c, (post_0 h c).trans (pre_1 h c), (post_1 h c).trans (pre_2 c), (post_2 c).trans (pre_3 h c),
      (post_3 h c).trans (pre_4 c), (post_4 c).trans (sep_mono .rfl (by iintro ⟨HO, -⟩; iexact HO))⟩)
    (hinit := ?_) (QY := fun c s => ∀ b ∈ Pipeline.ucRefs τ sig, s.mem (((c : Thread nD τ).1, b) : Loc nD τ sig) = W6 m c b)
    (hfin := fun c s' => ?_) (hQ := fun _ h hz => ⟨h, funext fun g => hz g (.inr (regions_no_unscoped g.2))⟩)
  · have hone : ∀ c : Dev nD, (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp) : sProp 𝕄)
        ⊢ iprop(StableHlo.held (c : Thread nD τ) (Pipeline.ucRefs τ sig) (V0 m c) ∗ rest c) := fun c => by
      rw [← Pipeline.unscopedBufs_held (Ix := Unit) (Name := ℕ) (U := UR sig nD τ) (Lvl := ℕ) c (V0 m c)]
      iintro ⟨HB, -, HO, -, HP, -⟩
      isplitl [HB]; · iexact HB
      isplitl [HO]; · iexists _; iexact HO
      isplitl [HP]; · iexists _; iexact HP
      iempintro
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ rest c) : sProp 𝕄) :=
      bigSep_mono fun c _ => hone c
    iintro ⟨H, -⟩
    imodintro
    iapply hsplit $$ H
  · unfold StableHlo.held
    iintro ⟨Hh, HSI⟩
    imodintro
    iapply (pointsTo_read_all (Pipeline.ucRefs τ sig) (fun b => ((c : Thread nD τ).1, b)) (W6 m c) s')
    isplitl [Hh] <;> iassumption

/-- One unscoped buffer of the final state. -/
theorem mem_uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- A buffer no call and no host operation writes ends as it was. -/
theorem W6_arg (c : Dev nD) (r : Ref sig .tc) (h1 : r ∉ hostOps0_W) (h2 : r ∉ [main_v12, main_v13, main_v14, main_v15, main_v16]) :
    at_ (W6 m) c r = m ((c : Thread nD τ).loc r) := by
  simp only [List.mem_cons, List.not_mem_nil, or_false, not_or] at h2
  obtain ⟨a, b, d, e, f⟩ := h2
  exact (W6_of m c r f).trans ((W5_of m c r e).trans ((W4_of m c r d).trans ((W3_of m c r b).trans ((W2_of m c r a).trans (V1_of m c r h1)))))

end Cert.KernelIdeal.Body

end
-- ==== Proof.Ranges.lean ====
/- From the bounds on the launch arguments to the bounds every call of the kernel asks for: the three index arrays the calls
   read are the two rows of the edge list and the relation list, laid out as 40 chunks of 8000. -/
module

public import proofs.«01_k».proof.Proof.Run
public import Idealize.ShloMosaic.Lib.StableHlo.Run
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F] (m : (ℓ : Loc nD τ sig) → Buf (Elt F) ℓ)

/-- The source nodes: row 0 of the edge list, in chunks. -/
theorem W1_v2 (c : Dev nD) : at_ (W1 m) c main_v2 = shapeCast S40x1x8000 (shapeCast S320000
    (extractStridedSlice S1x320000 ![0, 0] (m ((c : Thread nD τ).loc main_arg1)) slices_S2x320000_S1x320000_0_0)
    shapeCasts_S1x320000_S320000) shapeCasts_S320000_S40x1x8000 := by
  show StableHlo.after hostOps0 (V0 m c) (Proc.devRef .tc main_v2) = _
  unfold_abbrev_sides
  after_results
  rfl

/-- The destination nodes: row 1 of the edge list, in chunks. -/
theorem W1_v5 (c : Dev nD) : at_ (W1 m) c main_v5 = shapeCast S40x1x8000 (shapeCast S320000
    (extractStridedSlice S1x320000 ![1, 0] (m ((c : Thread nD τ).loc main_arg1)) slices_S2x320000_S1x320000_1_0)
    shapeCasts_S1x320000_S320000) shapeCasts_S320000_S40x1x8000 := by
  show StableHlo.after hostOps0 (V0 m c) (Proc.devRef .tc main_v5) = _
  unfold_abbrev_sides
  after_results
  rfl

/-- The relations of the edges, in chunks. -/
theorem W1_v6 (c : Dev nD) : at_ (W1 m) c main_v6 = shapeCast S40x1x8000 (m ((c : Thread nD τ).loc main_arg2))
    shapeCasts_S320000_S40x1x8000 := by
  show StableHlo.after hostOps0 (V0 m c) (Proc.devRef .tc main_v6) = _
  unfold_abbrev_sides
  after_results
  rfl

variable {m}

/-- Node numbers below 10000 and relation numbers below 16 in the arguments give the bounds of the three index arrays. -/
theorem inRange_of (h1 : ∀ (c : Dev nD) (y : S2x320000.Idx), (m ((c : Thread nD τ).loc main_arg1) y : BitVec 32).toNat < 10000)
    (h2 : ∀ (c : Dev nD) (y : S320000.Idx), (m ((c : Thread nD τ).loc main_arg2) y : BitVec 32).toNat < 16) : InRange m where
  src c y := by rw [W1_v2]; exact h1 c _
  dst c y := by rw [W1_v5]; exact h1 c _
  rel c y := by rw [W1_v6]; exact h2 c _

end Cert.KernelIdeal.Body

end
-- ==== Proof.Frames.lean ====
/- The frames: the kernel, its idealization and the reference run, leave their arguments as they were and every counter at zero. -/
module

public import proofs.«01_k».proof.Defs
public import proofs.«01_k».proof.Proof.Ranges
public import proofs.«01_k».proof.Proof.Bits.Ranges
public import proofs.«01_k».proof.Proof.Gen.ReferenceIdeal.Run
public import Idealize.ShloMosaic.Lib.WordCmp

@[expose] public section

set_option maxRecDepth 16384

noncomputable section

namespace Cert.Proof

open Idealize.ShloMosaic Idealize.ShloMosaic.TcCoe Idealize.ShloMosaic.WordCmp Idealize.SL.Sem

instance preFacts : Cert.Pre_edges_in_range.Facts where
  bcast_S_S2x320000 := by decide
  bcast_S_S320000 := by decide

/-- `0 ≤ x < k` as the precondition computes it, for a bound below the sign bit. -/
theorem toNat_lt_of_both {x : BitVec 32} {k : ℕ} (hk : k < 2 ^ 31)
    (h : IntOp.andi (IntOp.cmpi .sge x 0#32) (IntOp.cmpi .slt x (BitVec.ofNat 32 k)) = 1#1) : x.toNat < k := by
  rw [andi_sge_zero_slt_ofNat hk] at h
  by_contra hc
  simp [hc] at h

theorem inRange_Kernel (m : (ℓ : Loc Cert.Kernel.nD Cert.Kernel.τ Cert.Kernel.sig) → Buf (Elt Bits) ℓ) (h : Cert.Pre_Kernel m) :
    Cert.Kernel.Body.InRange m :=
  Cert.Kernel.Body.inRange_of (fun c y => toNat_lt_of_both (by decide) (congrFun (h c).1 y))
    (fun c y => toNat_lt_of_both (by decide) (congrFun (h c).2 y))

theorem inRange_KernelIdeal (m : (ℓ : Loc Cert.KernelIdeal.nD Cert.KernelIdeal.τ Cert.KernelIdeal.sig) → Buf (Elt Ideal) ℓ)
    (h : Cert.Pre_KernelIdeal m) : Cert.KernelIdeal.Body.InRange m :=
  Cert.KernelIdeal.Body.inRange_of (fun c y => toNat_lt_of_both (by decide) (congrFun (h c).1 y))
    (fun c y => toNat_lt_of_both (by decide) (congrFun (h c).2 y))

theorem frame_kernel : Cert.quiescent_Kernel := by
  intro m g hp
  refine (θ_run Cert.Kernel.defs _ _).mono (fun r h => ⟨fun c => ?_, h.2⟩) (Cert.Kernel.Body.run m g (inRange_Kernel m hp))
  have hr : ∀ r' : Ref Cert.Kernel.sig .tc, r'.isScoped = false → r' ∉ Cert.Kernel.Gen.hostOps0_W →
      r' ∉ [Cert.Kernel.main_v12, Cert.Kernel.main_v13, Cert.Kernel.main_v14, Cert.Kernel.main_v15, Cert.Kernel.main_v16] →
      r.2.mem ((c : Thread Cert.Kernel.nD Cert.Kernel.τ).loc r') = m ((c : Thread Cert.Kernel.nD Cert.Kernel.τ).loc r') :=
    fun r' h0 h1 h2 => (h.1 c _ (Cert.Kernel.Body.mem_uc r' h0)).trans (Cert.Kernel.Body.W6_arg m c r' h1 h2)
  refine ⟨?_, ?_, ?_, ?_, ?_, ?_, ?_, ?_, ?_, ?_, ?_, ?_, ?_, ?_⟩ <;> exact hr _ rfl (by decide) (by decide)

theorem frame_kernelIdeal_of (m : (ℓ : Loc Cert.KernelIdeal.nD Cert.KernelIdeal.τ Cert.KernelIdeal.sig) → Buf (Elt Ideal) ℓ)
    (g : Dev Cert.KernelIdeal.nD → PrngReg) (hp : Cert.KernelIdeal.Body.InRange m) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD, r.2.mem ((c : Thread Cert.KernelIdeal.nD Cert.KernelIdeal.τ).loc Cert.KernelIdeal.main_v16)
          = Cert.KernelIdeal.Body.at_ (Cert.KernelIdeal.Body.W6 m) c Cert.KernelIdeal.main_v16
        ∧ ∀ r' : Ref Cert.KernelIdeal.sig .tc, r'.isScoped = false → r' ∉ Cert.KernelIdeal.Gen.hostOps0_W →
          r' ∉ [Cert.KernelIdeal.main_v12, Cert.KernelIdeal.main_v13, Cert.KernelIdeal.main_v14, Cert.KernelIdeal.main_v15, Cert.KernelIdeal.main_v16] →
          r.2.mem ((c : Thread Cert.KernelIdeal.nD Cert.KernelIdeal.τ).loc r') = m ((c : Thread Cert.KernelIdeal.nD Cert.KernelIdeal.τ).loc r'))
        ∧ r.2.sem = fun _ => 0) :=
  (θ_run Cert.KernelIdeal.defs _ _).mono (fun _ h => ⟨fun c => ⟨h.1 c _ (Cert.KernelIdeal.Body.mem_uc _ rfl),
    fun r' h0 h1 h2 => (h.1 c _ (Cert.KernelIdeal.Body.mem_uc r' h0)).trans (Cert.KernelIdeal.Body.W6_arg m c r' h1 h2)⟩, h.2⟩)
    (Cert.KernelIdeal.Body.run m g hp)

theorem frame_kernelIdeal : Cert.quiescent_KernelIdeal := by
  intro m g hp
  refine (θ_run Cert.KernelIdeal.defs _ _).mono (fun r h => ⟨fun c => ?_, h.2⟩) (frame_kernelIdeal_of m g (inRange_KernelIdeal m hp))
  have hr := (h.1 c).2
  refine ⟨?_, ?_, ?_, ?_, ?_, ?_, ?_, ?_, ?_, ?_, ?_, ?_, ?_, ?_⟩ <;> exact hr _ rfl (by decide) (by decide)

theorem frame_referenceIdeal : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Ends.lean ====
/- What each call leaves in its result array: the counts and the two arrays of sums after all 40 chunks, the two layers block by
   block; and the chain of them through the program. -/
module

public import proofs.«01_k».proof.Proof.Ranges
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F] (V : Vals F) (c : Dev nD)

/-- The first layer's output: row `n` from row `n` of the features and of the four arrays of sums, in blocks of 400 rows. -/
def layer2 (X : Vec F S10000x128 .f32) (A : Vec F S4x10000x128 .f32) (B : Vec F S4x128x128 .f32) (R : Vec F S128x128 .f32)
    (g b : Vec F S1x128 .f32) : Vec F S10000x128 .f32 :=
  fun y => dense2 (rows X ((y 0).val / 400)) (rows4 A ((y 0).val / 400)) B R g b (ix2 ⟨(y 0).val % 400, Nat.mod_lt _ (by decide)⟩ (y 1))

/-- The second layer's output, likewise. -/
def layer4 (X : Vec F S10000x128 .f32) (A : Vec F S4x10000x128 .f32) (B : Vec F S4x128x128 .f32) (R : Vec F S128x128 .f32)
    (g b : Vec F S1x128 .f32) (s : Vec F S1x1 .f32) : Vec F S10000x128 .f32 :=
  fun y => dense4 (rows X ((y 0).val / 400)) (rows4 A ((y 0).val / 400)) B R g b s (ix2 ⟨(y 0).val % 400, Nat.mod_lt _ (by decide)⟩ (y 1))

theorem emb0_2 (t : Fin cfg0.N) (y : S10000x16.Idx) : ((cfg0.win 2).blk t).view.emb y = y := by
  funext a
  refine Fin.ext ?_
  refine ((cfg0.win 2).rect_emb_val t y a).trans ?_
  fin_cases a
  · show 0 * 10000 + (y 0).val = (y 0).val
    omega
  · show 0 * 16 + (y 1).val = (y 1).val
    omega

theorem final0 : (dat0 V c).arrAt 2 cfg0.N = cntAcc (at_ V c main_v5) (at_ V c main_v6) 40 := by
  refine (dat0 V c).arrAt_eq_of_cover 2 _ (fun t hf => ?_) (fun i => ⟨⟨39, by decide⟩, (flush0_2 _).2 rfl, ?_⟩)
  · have h39 : t.val = 39 := by
      have h1 := (flush0_2 t).1 hf
      have h2 : t.val < 40 := t.isLt
      omega
    funext y
    have e : (dat0 V c).flushed 2 t y = cntAcc (at_ V c main_v5) (at_ V c main_v6) (t.val + 1) y := rfl
    rw [e, h39]
    exact (congrArg _ (emb0_2 t y)).symm
  · have := ((cfg0.win 2).blk ⟨39, by decide⟩).view.emb_mem_set i
    rwa [emb0_2] at this

theorem emb1_6 (t : Fin cfg1.N) (y : S4x10000x128.Idx) : ((cfg1.win 6).blk t).view.emb y = y := by
  funext a
  refine Fin.ext ?_
  refine ((cfg1.win 6).rect_emb_val t y a).trans ?_
  fin_cases a
  · show 0 * 4 + (y 0).val = (y 0).val
    omega
  · show 0 * 10000 + (y 1).val = (y 1).val
    omega
  · show 0 * 128 + (y 2).val = (y 2).val
    omega

theorem final1 : (dat1 V c).arrAt 6 cfg1.N = accAcc (at_ V c main_v2) (at_ V c main_v5) (at_ V c main_v6) (at_ V c main_arg4) (at_ V c main_arg0) (at_ V c main_v12) 40 := by
  refine (dat1 V c).arrAt_eq_of_cover 6 _ (fun t hf => ?_) (fun i => ⟨⟨39, by decide⟩, (flush1_6 _).2 rfl, ?_⟩)
  · have h39 : t.val = 39 := by
      have h1 := (flush1_6 t).1 hf
      have h2 : t.val < 40 := t.isLt
      omega
    funext y
    have e : (dat1 V c).flushed 6 t y = accAcc (at_ V c main_v2) (at_ V c main_v5) (at_ V c main_v6) (at_ V c main_arg4) (at_ V c main_arg0) (at_ V c main_v12) (t.val + 1) y := rfl
    rw [e, h39]
    exact (congrArg _ (emb1_6 t y)).symm
  · have := ((cfg1.win 6).blk ⟨39, by decide⟩).view.emb_mem_set i
    rwa [emb1_6] at this

theorem emb3_6 (t : Fin cfg3.N) (y : S4x10000x128.Idx) : ((cfg3.win 6).blk t).view.emb y = y := by
  funext a
  refine Fin.ext ?_
  refine ((cfg3.win 6).rect_emb_val t y a).trans ?_
  fin_cases a
  · show 0 * 4 + (y 0).val = (y 0).val
    omega
  · show 0 * 10000 + (y 1).val = (y 1).val
    omega
  · show 0 * 128 + (y 2).val = (y 2).val
    omega

theorem final3 : (dat3 V c).arrAt 6 cfg3.N = accAcc (at_ V c main_v2) (at_ V c main_v5) (at_ V c main_v6) (at_ V c main_arg9) (at_ V c main_v14) (at_ V c main_v12) 40 := by
  refine (dat3 V c).arrAt_eq_of_cover 6 _ (fun t hf => ?_) (fun i => ⟨⟨39, by decide⟩, (flush3_6 _).2 rfl, ?_⟩)
  · have h39 : t.val = 39 := by
      have h1 := (flush3_6 t).1 hf
      have h2 : t.val < 40 := t.isLt
      omega
    funext y
    have e : (dat3 V c).flushed 6 t y = accAcc (at_ V c main_v2) (at_ V c main_v5) (at_ V c main_v6) (at_ V c main_arg9) (at_ V c main_v14) (at_ V c main_v12) (t.val + 1) y := rfl
    rw [e, h39]
    exact (congrArg _ (emb3_6 t y)).symm
  · have := ((cfg3.win 6).blk ⟨39, by decide⟩).view.emb_mem_set i
    rwa [emb3_6] at this

theorem emb2_7 (t : Fin cfg2.N) (y : S400x128.Idx) (h : t.val * 400 + (y 0).val < 10000) :
    ((cfg2.win 7).blk t).view.emb y = (ix2 ⟨t.val * 400 + (y 0).val, h⟩ (y 1) : S10000x128.Idx) := by
  funext a
  refine Fin.ext ?_
  refine ((cfg2.win 7).rect_emb_val t y a).trans ?_
  have ht : t.val < 25 := t.isLt
  fin_cases a
  · show (BitVec.ofNat 32 (grid2.coords t 0).val).toNat * 400 + (y 0).val = t.val * 400 + (y 0).val
    rw [tick25]
  · show 0 * 128 + (y 1).val = (y 1).val
    omega

theorem final2 : (dat2 V c).arrAt 7 cfg2.N = layer2 (at_ V c main_arg0) (at_ V c main_v13) (at_ V c main_arg3) (at_ V c main_arg5) (at_ V c main_v7) (at_ V c main_v8) := by
  refine (dat2 V c).arrAt_eq_of_cover 7 _ (fun t _ => ?_) (fun i => ?_)
  · funext y
    have ht : t.val < 25 := t.isLt
    have hy : (y 0).val < 400 := (y 0).isLt
    have h : t.val * 400 + (y 0).val < 10000 := by omega
    have e : (dat2 V c).flushed 7 t y = dense2 (rows (at_ V c main_arg0) t.val) (rows4 (at_ V c main_v13) t.val) (at_ V c main_arg3) (at_ V c main_arg5) (at_ V c main_v7) (at_ V c main_v8) y := rfl
    rw [e]
    refine Eq.symm ((congrArg (layer2 (at_ V c main_arg0) (at_ V c main_v13) (at_ V c main_arg3) (at_ V c main_arg5) (at_ V c main_v7) (at_ V c main_v8)) (emb2_7 t y h)).trans ?_)
    have h1 : (t.val * 400 + (y 0).val) / 400 = t.val := by omega
    have h2 : (t.val * 400 + (y 0).val) % 400 = (y 0).val := by omega
    show dense2 (rows (at_ V c main_arg0) ((t.val * 400 + (y 0).val) / 400)) (rows4 (at_ V c main_v13) ((t.val * 400 + (y 0).val) / 400)) _ _ _ _
      (ix2 ⟨(t.val * 400 + (y 0).val) % 400, _⟩ (y 1)) = _
    rw [h1]
    refine congrArg _ ?_
    funext a
    refine Fin.ext ?_
    fin_cases a
    · exact h2
    · rfl
  · have hi : (i 0).val < 10000 := (i 0).isLt
    have hd : (i 0).val / 400 < 25 := by omega
    refine ⟨⟨(i 0).val / 400, hd⟩, flush2_7 _, ?_⟩
    have := ((cfg2.win 7).blk ⟨(i 0).val / 400, hd⟩).view.emb_mem_set (ix2 ⟨(i 0).val % 400, Nat.mod_lt _ (by decide)⟩ (i 1) : S400x128.Idx)
    rw [emb2_7 _ _ (by show (i 0).val / 400 * 400 + (i 0).val % 400 < 10000; omega)] at this
    have e : (ix2 ⟨(i 0).val / 400 * 400 + (i 0).val % 400, by omega⟩ (i 1) : S10000x128.Idx) = i := by
      funext a
      refine Fin.ext ?_
      fin_cases a
      · show (i 0).val / 400 * 400 + (i 0).val % 400 = (i 0).val
        omega
      · rfl
    exact cast (congrArg (fun j => j ∈ ((cfg2.win 7).blk ⟨(i 0).val / 400, hd⟩).view.set) e) this

theorem emb4_7 (t : Fin cfg4.N) (y : S400x128.Idx) (h : t.val * 400 + (y 0).val < 10000) :
    ((cfg4.win 7).blk t).view.emb y = (ix2 ⟨t.val * 400 + (y 0).val, h⟩ (y 1) : S10000x128.Idx) := by
  funext a
  refine Fin.ext ?_
  refine ((cfg4.win 7).rect_emb_val t y a).trans ?_
  have ht : t.val < 25 := t.isLt
  fin_cases a
  · show (BitVec.ofNat 32 (grid4.coords t 0).val).toNat * 400 + (y 0).val = t.val * 400 + (y 0).val
    rw [tick25]
  · show 0 * 128 + (y 1).val = (y 1).val
    omega

theorem final4 : (dat4 V c).arrAt 7 cfg4.N = layer4 (at_ V c main_v14) (at_ V c main_v15) (at_ V c main_arg8) (at_ V c main_arg10) (at_ V c main_v9) (at_ V c main_v10) (at_ V c main_v11) := by
  refine (dat4 V c).arrAt_eq_of_cover 7 _ (fun t _ => ?_) (fun i => ?_)
  · funext y
    have ht : t.val < 25 := t.isLt
    have hy : (y 0).val < 400 := (y 0).isLt
    have h : t.val * 400 + (y 0).val < 10000 := by omega
    have e : (dat4 V c).flushed 7 t y = dense4 (rows (at_ V c main_v14) t.val) (rows4 (at_ V c main_v15) t.val) (at_ V c main_arg8) (at_ V c main_arg10) (at_ V c main_v9) (at_ V c main_v10) (at_ V c main_v11) y := rfl
    rw [e]
    refine Eq.symm ((congrArg (layer4 (at_ V c main_v14) (at_ V c main_v15) (at_ V c main_arg8) (at_ V c main_arg10) (at_ V c main_v9) (at_ V c main_v10) (at_ V c main_v11)) (emb4_7 t y h)).trans ?_)
    have h1 : (t.val * 400 + (y 0).val) / 400 = t.val := by omega
    have h2 : (t.val * 400 + (y 0).val) % 400 = (y 0).val := by omega
    show dense4 (rows (at_ V c main_v14) ((t.val * 400 + (y 0).val) / 400)) (rows4 (at_ V c main_v15) ((t.val * 400 + (y 0).val) / 400)) _ _ _ _ _
      (ix2 ⟨(t.val * 400 + (y 0).val) % 400, _⟩ (y 1)) = _
    rw [h1]
    refine congrArg _ ?_
    funext a
    refine Fin.ext ?_
    fin_cases a
    · exact h2
    · rfl
  · have hi : (i 0).val < 10000 := (i 0).isLt
    have hd : (i 0).val / 400 < 25 := by omega
    refine ⟨⟨(i 0).val / 400, hd⟩, flush4_7 _, ?_⟩
    have := ((cfg4.win 7).blk ⟨(i 0).val / 400, hd⟩).view.emb_mem_set (ix2 ⟨(i 0).val % 400, Nat.mod_lt _ (by decide)⟩ (i 1) : S400x128.Idx)
    rw [emb4_7 _ _ (by show (i 0).val / 400 * 400 + (i 0).val % 400 < 10000; omega)] at this
    have e : (ix2 ⟨(i 0).val / 400 * 400 + (i 0).val % 400, by omega⟩ (i 1) : S10000x128.Idx) = i := by
      funext a
      refine Fin.ext ?_
      fin_cases a
      · show (i 0).val / 400 * 400 + (i 0).val % 400 = (i 0).val
        omega
      · rfl
    exact cast (congrArg (fun j => j ∈ ((cfg4.win 7).blk ⟨(i 0).val / 400, hd⟩).view.set) e) this

variable (m : (ℓ : Loc nD τ sig) → Buf (Elt F) ℓ)

/-- The number of edges of each relation into each node, as the program counts them. -/
def countsOf : Vec F S10000x16 .f32 := cntAcc (at_ (W1 m) c main_v5) (at_ (W1 m) c main_v6) 40

/-- The four arrays of sums of one layer from the coefficients and the features. -/
def sumsOf (comp : Vec F S16x4 .f32) (X : Vec F S10000x128 .f32) : Vec F S4x10000x128 .f32 :=
  accAcc (at_ (W1 m) c main_v2) (at_ (W1 m) c main_v5) (at_ (W1 m) c main_v6) comp X (countsOf c m) 40

/-- The first layer's output in the program. -/
def hiddenOf : Vec F S10000x128 .f32 :=
  layer2 (at_ (W1 m) c main_arg0) (sumsOf c m (at_ (W1 m) c main_arg4) (at_ (W1 m) c main_arg0)) (at_ (W1 m) c main_arg3) (at_ (W1 m) c main_arg5)
    (at_ (W1 m) c main_v7) (at_ (W1 m) c main_v8)

theorem W2_v12 : at_ (W2 m) c main_v12 = countsOf c m :=
  (Pipeline.afterRegion_arr (dat0 (W1 m) c) (W1 m c) winFacts0.arr_inj 2).trans (final0 (W1 m) c)

theorem W3_v13 : at_ (W3 m) c main_v13 = sumsOf c m (at_ (W1 m) c main_arg4) (at_ (W1 m) c main_arg0) := by
  refine (Pipeline.afterRegion_arr (dat1 (W2 m) c) (W2 m c) winFacts1.arr_inj 6).trans ((final1 (W2 m) c).trans ?_)
  rw [W2_v12, W2_of m c main_v2 (by decide), W2_of m c main_v5 (by decide), W2_of m c main_v6 (by decide), W2_of m c main_arg4 (by decide),
    W2_of m c main_arg0 (by decide)]
  rfl

theorem W3_old (r : Ref sig .tc) (h1 : r ≠ main_v12) (h2 : r ≠ main_v13) : at_ (W3 m) c r = at_ (W1 m) c r :=
  (W3_of m c r h2).trans (W2_of m c r h1)

theorem W4_v14 : at_ (W4 m) c main_v14 = hiddenOf c m := by
  refine (Pipeline.afterRegion_arr (dat2 (W3 m) c) (W3 m c) winFacts2.arr_inj 7).trans ((final2 (W3 m) c).trans ?_)
  rw [W3_v13, W3_old c m main_arg0 (by decide) (by decide), W3_old c m main_arg3 (by decide) (by decide), W3_old c m main_arg5 (by decide) (by decide),
    W3_old c m main_v7 (by decide) (by decide), W3_old c m main_v8 (by decide) (by decide)]
  rfl

theorem W4_old (r : Ref sig .tc) (h1 : r ≠ main_v12) (h2 : r ≠ main_v13) (h3 : r ≠ main_v14) : at_ (W4 m) c r = at_ (W1 m) c r :=
  (W4_of m c r h3).trans (W3_old c m r h1 h2)

theorem W5_v15 : at_ (W5 m) c main_v15 = sumsOf c m (at_ (W1 m) c main_arg9) (hiddenOf c m) := by
  refine (Pipeline.afterRegion_arr (dat3 (W4 m) c) (W4 m c) winFacts3.arr_inj 6).trans ((final3 (W4 m) c).trans ?_)
  have e12 : at_ (W4 m) c main_v12 = countsOf c m :=
    (W4_of m c main_v12 (by decide)).trans ((W3_of m c main_v12 (by decide)).trans (W2_v12 c m))
  rw [W4_v14, e12, W4_old c m main_v2 (by decide) (by decide) (by decide), W4_old c m main_v5 (by decide) (by decide) (by decide),
    W4_old c m main_v6 (by decide) (by decide) (by decide), W4_old c m main_arg9 (by decide) (by decide) (by decide)]
  rfl

theorem W5_old (r : Ref sig .tc) (h1 : r ≠ main_v12) (h2 : r ≠ main_v13) (h3 : r ≠ main_v14) (h4 : r ≠ main_v15) :
    at_ (W5 m) c r = at_ (W1 m) c r :=
  (W5_of m c r h4).trans (W4_old c m r h1 h2 h3)

/-- The program's result, from the buffers the first call finds. -/
theorem W6_v16 : at_ (W6 m) c main_v16 = layer4 (hiddenOf c m) (sumsOf c m (at_ (W1 m) c main_arg9) (hiddenOf c m))
    (at_ (W1 m) c main_arg8) (at_ (W1 m) c main_arg10) (at_ (W1 m) c main_v9) (at_ (W1 m) c main_v10) (at_ (W1 m) c main_v11) := by
  refine (Pipeline.afterRegion_arr (dat4 (W5 m) c) (W5 m c) winFacts4.arr_inj 7).trans ((final4 (W5 m) c).trans ?_)
  have e14 : at_ (W5 m) c main_v14 = hiddenOf c m := (W5_of m c main_v14 (by decide)).trans (W4_v14 c m)
  rw [W5_v15, e14, W5_old c m main_arg8 (by decide) (by decide) (by decide) (by decide), W5_old c m main_arg10 (by decide) (by decide) (by decide) (by decide),
    W5_old c m main_v9 (by decide) (by decide) (by decide) (by decide), W5_old c m main_v10 (by decide) (by decide) (by decide) (by decide),
    W5_old c m main_v11 (by decide) (by decide) (by decide) (by decide)]

end Cert.KernelIdeal.Body

end
-- ==== Proof.Spec.lean ====
/-
  The mathematics, on extended reals: the two ways of computing a layer's sums agree where the features, the bases and the
  coefficients are real, and a row normalized over its 128 entries is real whatever the row holds.
-/
module

public import Idealize.ShloMosaic.Lib.Pointwise
public import Idealize.ShloMosaic.Lib.IdealHost

@[expose] public section

set_option maxRecDepth 16384

noncomputable section

namespace Cert.Spec

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

section Sums

variable (S D : Fin 320000 → Fin 10000) (R : Fin 320000 → Fin 16)

/-- How many edges of relation `r` enter node `n`. -/
def cnt (n : Fin 10000) (r : Fin 16) : EReal := ∑ k, if D k = n ∧ R k = r then 1 else 0

/-- The kernel's sums: base `b`'s share at node `n`, every edge weighted as it comes. -/
def accK (comp : Fin 16 → Fin 4 → EReal) (x : Fin 10000 → Fin 128 → EReal) (b : Fin 4) (n : Fin 10000) (d : Fin 128) : EReal :=
  ∑ k, if D k = n then comp (R k) b * Ideal.div 1 (max (cnt D R n (R k)) 1) * x (S k) d else 0

/-- The kernel's row: the node's own part, then the four bases. -/
def rowK (comp : Fin 16 → Fin 4 → EReal) (bases : Fin 4 → Fin 128 → Fin 128 → EReal) (root : Fin 128 → Fin 128 → EReal)
    (x : Fin 10000 → Fin 128 → EReal) (n : Fin 10000) (j : Fin 128) : EReal :=
  (∑ d, x n d * root d j) + ∑ b, ∑ d, accK S D R comp x b n d * bases b d j

/-- The reference's sums: relation `r`'s at node `n`. -/
def aggR (x : Fin 10000 → Fin 128 → EReal) (r : Fin 16) (n : Fin 10000) (d : Fin 128) : EReal :=
  ∑ k, if D k = n ∧ R k = r then x (S k) d else 0

/-- The reference's row: the means of the relations through their matrices, then the node's own part. -/
def rowR (comp : Fin 16 → Fin 4 → EReal) (bases : Fin 4 → Fin 128 → Fin 128 → EReal) (root : Fin 128 → Fin 128 → EReal)
    (x : Fin 10000 → Fin 128 → EReal) (n : Fin 10000) (j : Fin 128) : EReal :=
  (∑ d, ∑ r, Ideal.div (aggR S D R x r n d) (max 1 (cnt D R n r)) * ∑ b, comp r b * bases b d j) + ∑ d, x n d * root d j

/-- The count as a real. -/
def cntReal (n : Fin 10000) (r : Fin 16) : ℝ := ∑ k, if D k = n ∧ R k = r then 1 else 0

theorem cnt_eq (n : Fin 10000) (r : Fin 16) : cnt D R n r = (cntReal D R n r : EReal) := by
  unfold cnt cntReal
  rw [coe_sum]
  refine Finset.sum_congr rfl fun k _ => ?_
  split <;> simp

theorem max_cnt (n : Fin 10000) (r : Fin 16) : max (cnt D R n r) 1 = ((max (cntReal D R n r) 1 : ℝ) : EReal) := by
  rw [cnt_eq, show (1 : EReal) = ((1 : ℝ) : EReal) from rfl]
  exact ((EReal.coe_strictMono.monotone).map_max).symm

theorem max_pos (n : Fin 10000) (r : Fin 16) : max (cntReal D R n r) 1 ≠ 0 :=
  (lt_of_lt_of_le one_pos (le_max_right _ _)).ne'

/-- The two sums over the edges, on reals. -/
theorem sums_real (comp : Fin 16 → Fin 4 → ℝ) (bases : Fin 4 → Fin 128 → ℝ) (x : Fin 10000 → Fin 128 → ℝ) (u : Fin 16 → ℝ) (n : Fin 10000) :
    (∑ b, ∑ d, (∑ k, if D k = n then comp (R k) b * u (R k) * x (S k) d else 0) * bases b d)
      = ∑ d, ∑ r, (∑ k, if D k = n ∧ R k = r then x (S k) d else 0) * u r * ∑ b, comp r b * bases b d := by
  rw [Finset.sum_comm]
  refine Finset.sum_congr rfl fun d _ => ?_
  have h1 : ∀ b, (∑ k, if D k = n then comp (R k) b * u (R k) * x (S k) d else 0) * bases b d
      = ∑ k, if D k = n then x (S k) d * u (R k) * (comp (R k) b * bases b d) else 0 := fun b => by
    rw [Finset.sum_mul]
    refine Finset.sum_congr rfl fun k _ => ?_
    split
    · ring
    · simp
  have h2 : ∀ r, (∑ k, if D k = n ∧ R k = r then x (S k) d else 0) * u r * (∑ b, comp r b * bases b d)
      = ∑ k, if R k = r then (if D k = n then x (S k) d * u (R k) * (∑ b, comp (R k) b * bases b d) else 0) else 0 := fun r => by
    rw [Finset.sum_mul, Finset.sum_mul]
    refine Finset.sum_congr rfl fun k _ => ?_
    by_cases hr : R k = r
    · by_cases hd : D k = n
      · simp [hr, hd]
      · simp [hd]
    · simp [hr]
  simp only [h1, h2]
  rw [Finset.sum_comm, Finset.sum_comm (s := (Finset.univ : Finset (Fin 16)))]
  refine Finset.sum_congr rfl fun k _ => ?_
  rw [Finset.sum_ite_eq Finset.univ (R k) _, if_pos (Finset.mem_univ _)]
  split
  · rw [Finset.mul_sum]
  · simp

/-- The two rows agree where coefficients, bases and features are real. -/
theorem rowK_eq_rowR (comp : Fin 16 → Fin 4 → ℝ) (bases : Fin 4 → Fin 128 → Fin 128 → ℝ) (root : Fin 128 → Fin 128 → EReal)
    (x : Fin 10000 → Fin 128 → ℝ) (n : Fin 10000) (j : Fin 128) :
    rowK S D R (fun r b => comp r b) (fun b d j => bases b d j) root (fun n d => x n d) n j
      = rowR S D R (fun r b => comp r b) (fun b d j => bases b d j) root (fun n d => x n d) n j := by
  unfold rowK rowR
  refine (add_comm _ _).trans (congrArg (fun z : EReal => z + ∑ d, (x n d : EReal) * root d j) ?_)
  have hK : ∀ b d, accK S D R (fun r b => comp r b) (fun n d => x n d) b n d
      = ((∑ k, if D k = n then comp (R k) b * (1 / max (cntReal D R n (R k)) 1) * x (S k) d else 0 : ℝ) : EReal) := fun b d => by
    unfold accK
    rw [coe_sum]
    refine Finset.sum_congr rfl fun k _ => ?_
    rw [max_cnt, Ideal.div_coe (max_pos D R n (R k)), one_mul]
    split
    · rw [EReal.coe_mul, EReal.coe_mul]
    · rfl
  have hR : ∀ r d, Ideal.div (aggR S D R (fun n d => x n d) r n d) (max 1 (cnt D R n r))
      = (((∑ k, if D k = n ∧ R k = r then x (S k) d else 0) * (1 / max (cntReal D R n r) 1) : ℝ) : EReal) := fun r d => by
    unfold aggR
    have hs : (∑ k, if D k = n ∧ R k = r then (x (S k) d : EReal) else 0) = ((∑ k, if D k = n ∧ R k = r then x (S k) d else 0 : ℝ) : EReal) := by
      rw [coe_sum]
      refine Finset.sum_congr rfl fun k _ => ?_
      split <;> rfl
    rw [hs, max_comm (1 : EReal), max_cnt, Ideal.div_coe (max_pos D R n r)]
    exact (EReal.coe_mul _ _).symm
  simp only [hK, hR, ← EReal.coe_mul, ← coe_sum]
  exact congrArg _ (sums_real S D R comp (fun b d => bases b d j) x (fun r => 1 / max (cntReal D R n r) 1) n)

end Sums

section Norm

/-- The number of entries of a row, as the programs hold it. -/
abbrev c128 : EReal := Ideal.ofBits .f32 0x43000000#32
/-- The small number under the root. -/
abbrev eps : EReal := Ideal.ofBits .f32 0x3727C5AC#32

theorem c128_eq : c128 = ((128 : ℝ) : EReal) := by
  simp [c128, Ideal.ofBits, Ideal.ieee, -EReal.coe_mul]
  norm_num

theorem eps_eq : ∃ e : ℝ, 0 < e ∧ eps = (e : EReal) := by
  refine ⟨10995116 * 2 ^ (-40 : ℤ), by positivity, ?_⟩
  simp [eps, Ideal.ofBits, Ideal.ieee, -EReal.coe_mul]

/-- A row's mean, -/
def mean (o : Fin 128 → EReal) : EReal := Ideal.div (∑ j, o j) c128
/-- its variance, -/
def var (o : Fin 128 → EReal) : EReal := Ideal.div (∑ j, (o j - mean o) * (o j - mean o)) c128
/-- the row normalized. -/
def lnorm (o : Fin 128 → EReal) (j : Fin 128) : EReal := Ideal.div (o j - mean o) (Ideal.sqrt (var o + eps))

theorem sum_bot {ι : Type} (s : Finset ι) (f : ι → EReal) (i : ι) (hi : i ∈ s) (h : f i = ⊥) : ∑ j ∈ s, f j = ⊥ := by
  classical
  rw [← Finset.add_sum_erase s f hi, h, EReal.bot_add]

theorem sum_ne_bot {ι : Type} (s : Finset ι) (f : ι → EReal) (h : ∀ i ∈ s, f i ≠ ⊥) : ∑ j ∈ s, f j ≠ ⊥ := by
  classical
  induction s using Finset.induction_on with
  | empty => simp
  | insert a s ha ih =>
    rw [Finset.sum_insert ha]
    refine fun e => ?_
    rcases EReal.add_eq_bot_iff.1 e with e | e
    · exact h a (Finset.mem_insert_self _ _) e
    · exact ih (fun i hi => h i (Finset.mem_insert_of_mem hi)) e

theorem sum_top {ι : Type} (s : Finset ι) (f : ι → EReal) (hb : ∀ i ∈ s, f i ≠ ⊥) (i : ι) (hi : i ∈ s) (h : f i = ⊤) : ∑ j ∈ s, f j = ⊤ := by
  classical
  rw [← Finset.add_sum_erase s f hi, h]
  exact EReal.top_add_of_ne_bot (sum_ne_bot _ _ fun j hj => hb j (Finset.mem_of_mem_erase hj))

theorem div_128 (x : EReal) : Ideal.div x c128 = x * ((1 / 128 : ℝ) : EReal) := by
  rw [c128_eq, Ideal.div_coe (by norm_num)]

theorem mul_self_ne_bot (x : EReal) : x * x ≠ ⊥ := by
  induction x using EReal.rec with
  | bot => simp
  | top => simp
  | coe r => rw [← EReal.coe_mul]; exact EReal.coe_ne_bot _

/-- A row with an infinity has infinite variance. -/
theorem var_top (o : Fin 128 → EReal) (j : Fin 128) (h : o j - mean o = ⊥) : var o = ⊤ := by
  unfold var
  rw [div_128, sum_top Finset.univ _ (fun i _ => mul_self_ne_bot _) j (Finset.mem_univ _) (by rw [h, EReal.bot_mul_bot])]
  exact EReal.top_mul_coe_of_pos (by norm_num)

theorem lnorm_of_top (o : Fin 128 → EReal) (h : var o = ⊤) (j : Fin 128) : lnorm o j = 0 := by
  unfold lnorm
  obtain ⟨e, _, he⟩ := eps_eq
  rw [h, he, EReal.top_add_coe, Ideal.sqrt_top, Ideal.div, if_neg EReal.top_ne_zero, EReal.inv_top, mul_zero]

/-- Normalized, any row is real. -/
theorem lnorm_real (o : Fin 128 → EReal) (j : Fin 128) : ∃ r : ℝ, lnorm o j = (r : EReal) := by
  by_cases hb : ∃ i, o i = ⊥
  · obtain ⟨i, hi⟩ := hb
    refine ⟨0, lnorm_of_top o (var_top o i ?_) j⟩
    rw [hi]
    exact EReal.bot_add (-mean o)
  by_cases ht : ∃ i, o i = ⊤
  · obtain ⟨i, hi⟩ := ht
    refine ⟨0, lnorm_of_top o (var_top o i ?_) j⟩
    have hm : mean o = ⊤ := by
      unfold mean
      rw [div_128, sum_top Finset.univ o (fun k _ hk => hb ⟨k, hk⟩) i (Finset.mem_univ _) hi]
      exact EReal.top_mul_coe_of_pos (by norm_num)
    rw [hi, hm]
    rfl
  have hr : ∀ i, ∃ r : ℝ, o i = (r : EReal) := fun i => ⟨(o i).toReal, (EReal.coe_toReal (fun e => ht ⟨i, e⟩) (fun e => hb ⟨i, e⟩)).symm⟩
  choose p hp using hr
  obtain rfl : o = fun i => (p i : EReal) := funext hp
  have hm : mean (fun i => (p i : EReal)) = (((∑ i, p i) * (1 / 128) : ℝ) : EReal) := by
    unfold mean
    rw [div_128, ← coe_sum, ← EReal.coe_mul]
  have hv : var (fun i => (p i : EReal))
      = (((∑ i, (p i - (∑ i, p i) * (1 / 128)) * (p i - (∑ i, p i) * (1 / 128))) * (1 / 128) : ℝ) : EReal) := by
    unfold var
    rw [div_128, hm]
    simp only [← EReal.coe_sub]
    rw [EReal.coe_mul, coe_sum]
    exact congrArg (· * _) (Finset.sum_congr rfl fun i _ => (EReal.coe_mul _ _).symm)
  obtain ⟨e, he0, he⟩ := eps_eq
  have hpos : 0 < (∑ i, (p i - (∑ i, p i) * (1 / 128)) * (p i - (∑ i, p i) * (1 / 128))) * (1 / 128 : ℝ) + e :=
    add_pos_of_nonneg_of_pos (mul_nonneg (Finset.sum_nonneg fun i _ => mul_self_nonneg _) (by norm_num)) he0
  unfold lnorm
  rw [hv, hm, he, ← EReal.coe_add, Ideal.sqrt_coe, if_neg (not_lt.2 hpos.le), Ideal.div_coe (Real.sqrt_pos.2 hpos).ne', ← EReal.coe_sub,
    ← EReal.coe_mul]
  exact ⟨_, rfl⟩

end Norm

end Cert.Spec

end
-- ==== Proof.ValueAcc.lean ====
/-
  What the kernel's counting and accumulating calls compute, entry by entry, on extended reals: sums over all the edges.
-/
module

public import proofs.«01_k».proof.Proof.Ends
public import proofs.«01_k».proof.Proof.Ranges
public import proofs.«01_k».proof.Proof.Spec

@[expose] public section

set_option maxRecDepth 16384

noncomputable section

namespace Cert.KernelIdeal.Body

open Cert.KernelIdeal Cert.KernelIdeal.Gen Cert.Spec
open Idealize.ShloMosaic Idealize.ShloMosaic.TcCoe Idealize.ShloMosaic.Tactic

/-- At an entry where every step adds a term free of the value, a run adds the terms' sum. -/
theorem runN_add {ι : Type} (f : ℕ → (ι → EReal) → ι → EReal) (T : ℕ → EReal) (y : ι) (h : ∀ k C, f k C y = C y + T k) (n : ℕ) (C : ι → EReal) :
    runN f n C y = C y + ∑ k ∈ Finset.range n, T k := by
  induction n with
  | zero => rw [runN_zero, Finset.sum_range_zero, add_zero]
  | succ n ih => rw [runN_succ, h n, ih, Finset.sum_range_succ, add_assoc]

/-- The edge at place `k` of chunk `t`. -/
def edgeAt (t k : ℕ) : Fin 320000 := ⟨(t % 40) * 8000 + k % 8000, by omega⟩

/-- A sum over 40 chunks of 8000 is a sum over 320000. -/
theorem sum_chunks (g : Fin 320000 → EReal) : (∑ t ∈ Finset.range 40, ∑ k ∈ Finset.range 8000, g (edgeAt t k)) = ∑ k, g k := by
  rw [Finset.sum_range (n := 40)]
  simp only [Finset.sum_range (n := 8000)]
  rw [← Equiv.sum_comp (finProdFinEquiv (m := 40) (n := 8000)) g, Fintype.sum_prod_type]
  refine Finset.sum_congr rfl fun t _ => Finset.sum_congr rfl fun k _ => congrArg g (Fin.ext ?_)
  show (t.val % 40) * 8000 + k.val % 8000 = k.val + 8000 * t.val
  omega

/-- The indicator of a word among 16 lanes. -/
theorem oneHot (rel : BitVec 32) (hr : rel.toNat < 16) (r : Fin 16) :
    (FloatOps.sitofp .f32 (BitVec.setWidth 32 (IntOp.cmpi .eq (BitVec.ofNat 32 r.val) rel)) : Ideal .f32) = if rel.toNat = r.val then (1 : EReal) else 0 := by
  have hb : (BitVec.ofNat 32 r.val).toNat = r.val := by
    rw [BitVec.toNat_ofNat]
    have := r.isLt
    omega
  by_cases h : rel.toNat = r.val
  · have e : BitVec.ofNat 32 r.val = rel := BitVec.eq_of_toNat_eq (hb.trans h.symm)
    rw [if_pos h, e]
    show (((BitVec.setWidth 32 (BitVec.ofBool (rel == rel))).toInt : ℝ) : EReal) = 1
    simp
  · have e : (BitVec.ofNat 32 r.val == rel) = false := by
      simp only [beq_eq_false_iff_ne, ne_eq]
      intro e
      exact h (by rw [← e, hb])
    rw [if_neg h]
    show (((BitVec.setWidth 32 (BitVec.ofBool (BitVec.ofNat 32 r.val == rel))).toInt : ℝ) : EReal) = 0
    rw [e]
    simp

theorem pay0_apply (rel : BitVec 32) (hr : rel.toNat < 16) (v : Vec Ideal S1x16 .f32) (r : Fin 16) :
    k0_pay2 (F := Ideal) rel v (ix2 0 r) = v (ix2 0 r) + if rel.toNat = r.val then 1 else 0 := by
  pointwise [k0_pay2]
  rw [oneHot rel hr]

theorem pay5_apply (rel : BitVec 32) (hr : rel.toNat < 16) (v : Vec Ideal S1x16 .f32) :
    k1_pay5 (F := Ideal) lanes rel v (ix2 0 0) = Ideal.div 1 (max (v (ix2 0 ⟨rel.toNat, hr⟩)) 1) := by
  pointwise [k1_pay5, lanes]
  refine congrArg (fun z => Ideal.div 1 (max z 1)) ?_
  rw [Finset.sum_eq_single (⟨rel.toNat, hr⟩ : Fin 16)]
  · rw [oneHot rel hr, if_pos rfl, mul_one]
  · intro r _ hne
    rw [oneHot rel hr, if_neg fun e => hne (Fin.ext e.symm), mul_zero]
  · exact fun h => absurd (Finset.mem_univ _) h

theorem pay2_apply (w : FVec Ideal S1x1 .f32) (x : Vec Ideal S1x128 .f32) (cb : Ideal .f32) (a : Vec Ideal S1x1x128 .f32) (d : Fin 128) :
    k1_pay2 (F := Ideal) w x cb a (ix3 0 0 d) = a (ix3 0 0 d) + cb * w (ix2 0 0) * x (ix2 0 d) := by
  pointwise [k1_pay2]

theorem cntStep_apply (t rel : BitVec 32) (hr : rel.toNat < 16) (C : Vec Ideal S10000x16 .f32) (n : Fin 10000) (r : Fin 16) :
    cntStep (F := Ideal) t rel C (ix2 n r) = C (ix2 n r) + if t.toNat = n.val ∧ rel.toNat = r.val then 1 else 0 := by
  show (if n.val = t.toNat then k0_pay2 (F := Ideal) rel (fun z => C (ix2 n (z 1))) (ix2 0 r) else C (ix2 n r)) = _
  by_cases h : n.val = t.toNat
  · rw [if_pos h, pay0_apply rel hr]
    refine congrArg (fun z : EReal => C (ix2 n r) + z) ?_
    simp only [h, true_and]
  · rw [if_neg h, if_neg fun e => h e.1.symm, add_zero]

theorem accStep_apply (s d r : BitVec 32) (hr : r.toNat < 16) (X4 : Vec Ideal S16x4 .f32) (X5 : Vec Ideal S10000x128 .f32) (X6 : Vec Ideal S10000x16 .f32)
    (A : Vec Ideal S4x10000x128 .f32) (b : Fin 4) (n : Fin 10000) (j : Fin 128) :
    accStep (F := Ideal) s d r X4 X5 X6 A (ix3 b n j) = A (ix3 b n j) + if d.toNat = n.val then
      X4 (ix2 ⟨r.toNat % 16, Nat.mod_lt _ (by decide)⟩ b) * Ideal.div 1 (max (X6 (ix2 n ⟨r.toNat % 16, Nat.mod_lt _ (by decide)⟩)) 1)
        * X5 (ix2 ⟨s.toNat % 10000, Nat.mod_lt _ (by decide)⟩ j) else 0 := by
  show (if n.val = d.toNat then k1_pay2 (F := Ideal) (k1_pay5 lanes r (cntRow X6 n)) (xRow X5 ⟨s.toNat % 10000, Nat.mod_lt _ (by decide)⟩)
    (X4 (ix2 ⟨r.toNat % 16, Nat.mod_lt _ (by decide)⟩ b)) (fun z => A (ix3 b n (z 2))) (ix3 0 0 j) else A (ix3 b n j)) = _
  by_cases h : n.val = d.toNat
  · rw [if_pos h, if_pos h.symm, pay2_apply, pay5_apply r hr]
    have e : (⟨r.toNat % 16, Nat.mod_lt _ (by decide)⟩ : Fin 16) = ⟨r.toNat, hr⟩ := Fin.ext (Nat.mod_eq_of_lt hr)
    rw [e]
    rfl
  · rw [if_neg h, if_neg fun e => h e.symm, add_zero]

section Words

variable (A1 : Vec Ideal S2x320000 .i32) (A2 : Vec Ideal S320000 .i32)

/-- Edge `k`'s source node, -/
def srcOf (k : Fin 320000) : Fin 10000 := ⟨(A1 (ix2 0 k) : BitVec 32).toNat % 10000, Nat.mod_lt _ (by decide)⟩
/-- its destination, -/
def dstOf (k : Fin 320000) : Fin 10000 := ⟨(A1 (ix2 1 k) : BitVec 32).toNat % 10000, Nat.mod_lt _ (by decide)⟩
/-- and its relation. -/
def relOf (k : Fin 320000) : Fin 16 := ⟨(A2 (ix1 k) : BitVec 32).toNat % 16, Nat.mod_lt _ (by decide)⟩

/-- The three arrays of chunks the calls read. -/
abbrev srcChunks : Vec Ideal S40x1x8000 .i32 := shapeCast S40x1x8000 (shapeCast S320000
    (extractStridedSlice S1x320000 ![0, 0] A1 slices_S2x320000_S1x320000_0_0) shapeCasts_S1x320000_S320000) shapeCasts_S320000_S40x1x8000
abbrev dstChunks : Vec Ideal S40x1x8000 .i32 := shapeCast S40x1x8000 (shapeCast S320000
    (extractStridedSlice S1x320000 ![1, 0] A1 slices_S2x320000_S1x320000_1_0) shapeCasts_S1x320000_S320000) shapeCasts_S320000_S40x1x8000
abbrev relChunks : Vec Ideal S40x1x8000 .i32 := shapeCast S40x1x8000 A2 shapeCasts_S320000_S40x1x8000

theorem srcWord (t k : ℕ) : wordAt (F := Ideal) (chunk (srcChunks A1) t) k = A1 (ix2 0 ⟨(t % 40) * 8000 + k % 8000, by omega⟩) := by
  unfold wordAt chunk srcChunks
  pointwise
theorem dstWord (t k : ℕ) : wordAt (F := Ideal) (chunk (dstChunks A1) t) k = A1 (ix2 1 ⟨(t % 40) * 8000 + k % 8000, by omega⟩) := by
  unfold wordAt chunk dstChunks
  pointwise
theorem relWord (t k : ℕ) : wordAt (F := Ideal) (chunk (relChunks A2) t) k = A2 (ix1 ⟨(t % 40) * 8000 + k % 8000, by omega⟩) := by
  unfold wordAt chunk relChunks
  pointwise

variable (h1 : ∀ y, (A1 y : BitVec 32).toNat < 10000) (h2 : ∀ y, (A2 y : BitVec 32).toNat < 16)

theorem ite_cond {p q : Prop} [Decidable p] [Decidable q] (a : EReal) (h : p ↔ q) : (if p then a else 0) = if q then a else 0 := by
  simp only [h]

include h1 in
theorem dst_iff (k : Fin 320000) (n : Fin 10000) : (A1 (ix2 1 k) : BitVec 32).toNat = n.val ↔ dstOf A1 k = n := by
  rw [Fin.ext_iff]
  show _ ↔ (A1 (ix2 1 k) : BitVec 32).toNat % 10000 = n.val
  rw [Nat.mod_eq_of_lt (h1 _)]

include h2 in
theorem rel_iff (k : Fin 320000) (r : Fin 16) : (A2 (ix1 k) : BitVec 32).toNat = r.val ↔ relOf A2 k = r := by
  rw [Fin.ext_iff]
  show _ ↔ (A2 (ix1 k) : BitVec 32).toNat % 16 = r.val
  rw [Nat.mod_eq_of_lt (h2 _)]

include h1 h2 in
/-- The counts: how many edges of each relation enter each node. -/
theorem cntAcc_apply (n : Fin 10000) (r : Fin 16) :
    cntAcc (F := Ideal) (dstChunks A1) (relChunks A2) 40 (ix2 n r) = cnt (dstOf A1) (relOf A2) n r := by
  have hin : ∀ t k (C : Vec Ideal S10000x16 .f32),
      cntStep (F := Ideal) (wordAt (chunk (dstChunks A1) t) k) (wordAt (chunk (relChunks A2) t) k) C (ix2 n r) = C (ix2 n r)
        + if dstOf A1 (edgeAt t k) = n ∧ relOf A2 (edgeAt t k) = r then 1 else 0 := fun t k C => by
    rw [dstWord, relWord, cntStep_apply _ _ (h2 _)]
    exact congrArg (fun z : EReal => C (ix2 n r) + z) (ite_cond 1 (and_congr (dst_iff A1 h1 (edgeAt t k) n) (rel_iff A2 h2 (edgeAt t k) r)))
  have hout : ∀ t (C : Vec Ideal S10000x16 .f32), cntRun (F := Ideal) (chunk (dstChunks A1) t) (chunk (relChunks A2) t) 8000 C (ix2 n r) = C (ix2 n r)
      + ∑ k ∈ Finset.range 8000, if dstOf A1 (edgeAt t k) = n ∧ relOf A2 (edgeAt t k) = r then 1 else 0 :=
    fun t C => runN_add (fun k => cntStep (F := Ideal) (wordAt (chunk (dstChunks A1) t) k) (wordAt (chunk (relChunks A2) t) k)) _ (ix2 n r) (hin t) 8000 C
  refine (runN_add (fun t C => cntRun (F := Ideal) (chunk (dstChunks A1) t) (chunk (relChunks A2) t) 8000 C) _ (ix2 n r) hout 40 (k0_pay1 (F := Ideal))).trans ?_
  rw [sum_chunks fun e => if dstOf A1 e = n ∧ relOf A2 e = r then 1 else 0]
  pointwise [k0_pay1]
  rfl

include h1 h2 in
/-- The sums: at each base and node, over the edges into the node. -/
theorem accAcc_apply (comp : Vec Ideal S16x4 .f32) (X : Vec Ideal S10000x128 .f32) (C : Vec Ideal S10000x16 .f32)
    (hC : ∀ n r, C (ix2 n r) = cnt (dstOf A1) (relOf A2) n r) (b : Fin 4) (n : Fin 10000) (j : Fin 128) :
    accAcc (F := Ideal) (srcChunks A1) (dstChunks A1) (relChunks A2) comp X C 40 (ix3 b n j)
      = accK (srcOf A1) (dstOf A1) (relOf A2) (fun r b => comp (ix2 r b)) (fun n d => X (ix2 n d)) b n j := by
  have hin : ∀ t k (A : Vec Ideal S4x10000x128 .f32),
      accStep (F := Ideal) (wordAt (chunk (srcChunks A1) t) k) (wordAt (chunk (dstChunks A1) t) k) (wordAt (chunk (relChunks A2) t) k) comp X C A (ix3 b n j)
        = A (ix3 b n j) + if dstOf A1 (edgeAt t k) = n then comp (ix2 (relOf A2 (edgeAt t k)) b)
          * Ideal.div 1 (max (cnt (dstOf A1) (relOf A2) n (relOf A2 (edgeAt t k))) 1) * X (ix2 (srcOf A1 (edgeAt t k)) j) else 0 := fun t k A => by
    rw [srcWord, dstWord, relWord, accStep_apply _ _ _ (h2 _), hC]
    exact congrArg (fun z : EReal => A (ix3 b n j) + z) (ite_cond _ (dst_iff A1 h1 (edgeAt t k) n))
  have hout : ∀ t (A : Vec Ideal S4x10000x128 .f32),
      accRun (F := Ideal) (chunk (srcChunks A1) t) (chunk (dstChunks A1) t) (chunk (relChunks A2) t) comp X C 8000 A (ix3 b n j) = A (ix3 b n j)
      + ∑ k ∈ Finset.range 8000, if dstOf A1 (edgeAt t k) = n then comp (ix2 (relOf A2 (edgeAt t k)) b)
          * Ideal.div 1 (max (cnt (dstOf A1) (relOf A2) n (relOf A2 (edgeAt t k))) 1) * X (ix2 (srcOf A1 (edgeAt t k)) j) else 0 :=
    fun t A => runN_add (fun k => accStep (F := Ideal) (wordAt (chunk (srcChunks A1) t) k) (wordAt (chunk (dstChunks A1) t) k)
      (wordAt (chunk (relChunks A2) t) k) comp X C) _ (ix3 b n j) (hin t) 8000 A
  refine (runN_add (fun t A => accRun (F := Ideal) (chunk (srcChunks A1) t) (chunk (dstChunks A1) t) (chunk (relChunks A2) t) comp X C 8000 A) _ (ix3 b n j)
    hout 40 (k1_pay1 (F := Ideal))).trans ?_
  rw [sum_chunks fun e => if dstOf A1 e = n then comp (ix2 (relOf A2 e) b)
          * Ideal.div 1 (max (cnt (dstOf A1) (relOf A2) n (relOf A2 e)) 1) * X (ix2 (srcOf A1 e) j) else 0]
  pointwise [k1_pay1]
  rfl

end Words

end Cert.KernelIdeal.Body

end
-- ==== Proof.ValueDense.lean ====
/-
  What the kernel's dense calls compute, entry by entry, on extended reals: the row's products, normalized.
-/
module

public import proofs.«01_k».proof.Proof.Ends
public import proofs.«01_k».proof.Proof.Spec

@[expose] public section

set_option maxRecDepth 16384

noncomputable section

namespace Cert.KernelIdeal.Body

open Cert.KernelIdeal Cert.KernelIdeal.Gen Cert.Spec
open Idealize.ShloMosaic Idealize.ShloMosaic.TcCoe Idealize.ShloMosaic.Tactic

/-- A block's row of products: the row's own part, then the four bases. -/
def blockRow (X1 : Vec Ideal S400x128 .f32) (X2 : Vec Ideal S4x400x128 .f32) (X3 : Vec Ideal S4x128x128 .f32) (X4 : Vec Ideal S128x128 .f32)
    (i : Fin 400) (j : Fin 128) : EReal :=
  (∑ d : Fin 128, X1 (ix2 i d) * X4 (ix2 d j)) + ∑ b : Fin 4, ∑ d : Fin 128, X2 (ix3 b i d) * X3 (ix3 b d j)

theorem sum_four (x : EReal) (f : Fin 4 → EReal) : x + f 0 + f 1 + f 2 + f 3 = x + ∑ b, f b := by
  rw [Fin.sum_univ_four]
  simp only [add_assoc]

/-- The first layer's block: its rows normalized, scaled and moved, negative entries to zero. -/
theorem dense2_apply (X1 : Vec Ideal S400x128 .f32) (X2 : Vec Ideal S4x400x128 .f32) (X3 : Vec Ideal S4x128x128 .f32) (X4 : Vec Ideal S128x128 .f32)
    (g b : Vec Ideal S1x128 .f32) (i : Fin 400) (j : Fin 128) :
    dense2 (F := Ideal) X1 X2 X3 X4 g b (ix2 i j) = max (lnorm (blockRow X1 X2 X3 X4 i) j * g (ix2 0 j) + b (ix2 0 j)) 0 := by
  have h : ∀ j, _ = blockRow X1 X2 X3 X4 i j := fun j => sum_four (∑ d : Fin 128, X1 (ix2 i d) * X4 (ix2 d j))
    (fun b => ∑ d : Fin 128, X2 (ix3 b i d) * X3 (ix3 b d j))
  pointwise [dense2, k2_pay1, k2_pay2, k2_pay3, slabA, slabB]
  simp only [h]
  rfl

/-- The second layer's block: its rows normalized, scaled and moved, and a multiple of the block's own rows. -/
theorem dense4_apply (X1 : Vec Ideal S400x128 .f32) (X2 : Vec Ideal S4x400x128 .f32) (X3 : Vec Ideal S4x128x128 .f32) (X4 : Vec Ideal S128x128 .f32)
    (g b : Vec Ideal S1x128 .f32) (s : Vec Ideal S1x1 .f32) (i : Fin 400) (j : Fin 128) :
    dense4 (F := Ideal) X1 X2 X3 X4 g b s (ix2 i j)
      = lnorm (blockRow X1 X2 X3 X4 i) j * g (ix2 0 j) + b (ix2 0 j) + s (ix2 0 0) * X1 (ix2 i j) := by
  have h : ∀ j, _ = blockRow X1 X2 X3 X4 i j := fun j => sum_four (∑ d : Fin 128, X1 (ix2 i d) * X4 (ix2 d j))
    (fun b => ∑ d : Fin 128, X2 (ix3 b i d) * X3 (ix3 b d j))
  pointwise [dense4, k4_pay1, k4_pay2, k4_pay3, k4_pay4, k4_pay5, slabA, slabB]
  simp only [h]
  rfl

/-- A node's row of products. -/
def nodeRow (X : Vec Ideal S10000x128 .f32) (A : Vec Ideal S4x10000x128 .f32) (B : Vec Ideal S4x128x128 .f32) (R : Vec Ideal S128x128 .f32)
    (n : Fin 10000) (j : Fin 128) : EReal :=
  (∑ d : Fin 128, X (ix2 n d) * R (ix2 d j)) + ∑ b : Fin 4, ∑ d : Fin 128, A (ix3 b n d) * B (ix3 b d j)

theorem blockRow_rows (X : Vec Ideal S10000x128 .f32) (A : Vec Ideal S4x10000x128 .f32) (B : Vec Ideal S4x128x128 .f32) (R : Vec Ideal S128x128 .f32)
    (n : Fin 10000) (h : n.val % 400 < 400) :
    blockRow (rows X (n.val / 400)) (rows4 A (n.val / 400)) B R ⟨n.val % 400, h⟩ = nodeRow X A B R n := by
  have e : (⟨(n.val / 400 * 400 + n.val % 400) % 10000, Nat.mod_lt _ (by decide)⟩ : Fin 10000) = n := Fin.ext (by
    show (n.val / 400 * 400 + n.val % 400) % 10000 = n.val
    have := n.isLt
    omega)
  have h1 : ∀ d, rows X (n.val / 400) (ix2 ⟨n.val % 400, h⟩ d) = X (ix2 n d) := fun d => congrArg (fun z => X (ix2 z d)) e
  have h2 : ∀ b d, rows4 A (n.val / 400) (ix3 b ⟨n.val % 400, h⟩ d) = A (ix3 b n d) := fun b d => congrArg (fun z => A (ix3 b z d)) e
  funext j
  unfold blockRow nodeRow
  simp only [h1, h2]

theorem layer2_apply (X : Vec Ideal S10000x128 .f32) (A : Vec Ideal S4x10000x128 .f32) (B : Vec Ideal S4x128x128 .f32) (R : Vec Ideal S128x128 .f32)
    (g b : Vec Ideal S1x128 .f32) (n : Fin 10000) (j : Fin 128) :
    layer2 (F := Ideal) X A B R g b (ix2 n j) = max (lnorm (nodeRow X A B R n) j * g (ix2 0 j) + b (ix2 0 j)) 0 := by
  show dense2 (F := Ideal) (rows X (n.val / 400)) (rows4 A (n.val / 400)) B R g b (ix2 ⟨n.val % 400, Nat.mod_lt _ (by decide)⟩ j) = _
  rw [dense2_apply, blockRow_rows]

theorem layer4_apply (X : Vec Ideal S10000x128 .f32) (A : Vec Ideal S4x10000x128 .f32) (B : Vec Ideal S4x128x128 .f32) (R : Vec Ideal S128x128 .f32)
    (g b : Vec Ideal S1x128 .f32) (s : Vec Ideal S1x1 .f32) (n : Fin 10000) (j : Fin 128) :
    layer4 (F := Ideal) X A B R g b s (ix2 n j) = lnorm (nodeRow X A B R n) j * g (ix2 0 j) + b (ix2 0 j) + s (ix2 0 0) * X (ix2 n j) := by
  show dense4 (F := Ideal) (rows X (n.val / 400)) (rows4 A (n.val / 400)) B R g b s (ix2 ⟨n.val % 400, Nat.mod_lt _ (by decide)⟩ j) = _
  rw [dense4_apply, blockRow_rows]
  refine congrArg (fun z => _ + s (ix2 0 0) * X (ix2 z j)) (Fin.ext ?_)
  show (n.val / 400 * 400 + n.val % 400) % 10000 = n.val
  have := n.isLt
  omega

end Cert.KernelIdeal.Body

end
-- ==== Proof.ValueKernel.lean ====
/-
  The kernel's result as a function of the fourteen arguments, and its entries.
-/
module

public import proofs.«01_k».proof.Proof.ValueAcc
public import proofs.«01_k».proof.Proof.ValueDense

@[expose] public section

set_option maxRecDepth 16384

noncomputable section

namespace Cert.KernelIdeal.Body

open Cert.KernelIdeal Cert.KernelIdeal.Gen Cert.Spec
open Idealize.ShloMosaic Idealize.ShloMosaic.TcCoe Idealize.ShloMosaic.Tactic

section Terms

variable (A0 : Vec Ideal S10000x128 .f32) (A1 : Vec Ideal S2x320000 .i32) (A2 : Vec Ideal S320000 .i32)

/-- The sums a layer's features give, -/
def sumsAt (C : Vec Ideal S16x4 .f32) (X : Vec Ideal S10000x128 .f32) : Vec Ideal S4x10000x128 .f32 :=
  accAcc (F := Ideal) (srcChunks A1) (dstChunks A1) (relChunks A2) C X (cntAcc (F := Ideal) (dstChunks A1) (relChunks A2) 40) 40

/-- the first layer, -/
def hiddenAt (A3 : Vec Ideal S4x128x128 .f32) (A4 : Vec Ideal S16x4 .f32) (A5 : Vec Ideal S128x128 .f32) (A6 A7 : Vec Ideal S128 .f32) :
    Vec Ideal S10000x128 .f32 :=
  layer2 (F := Ideal) A0 (sumsAt A1 A2 A4 A0) A3 A5 (shapeCast S1x128 A6 shapeCasts_S128_S1x128) (shapeCast S1x128 A7 shapeCasts_S128_S1x128)

/-- and the second, from the first's result. -/
def outAt (H : Vec Ideal S10000x128 .f32) (A8 : Vec Ideal S4x128x128 .f32) (A9 : Vec Ideal S16x4 .f32) (A10 : Vec Ideal S128x128 .f32) (A11 A12 : Vec Ideal S128 .f32)
    (A13 : Vec Ideal S_ .f32) : Vec Ideal S10000x128 .f32 :=
  layer4 (F := Ideal) H (sumsAt A1 A2 A9 H) A8 A10 (shapeCast S1x128 A11 shapeCasts_S128_S1x128) (shapeCast S1x128 A12 shapeCasts_S128_S1x128)
    (shapeCast S1x1 A13 shapeCasts_S_S1x1)

variable (h1 : ∀ y, (A1 y : BitVec 32).toNat < 10000) (h2 : ∀ y, (A2 y : BitVec 32).toNat < 16)

include h1 h2 in
theorem nodeRow_eq (X : Vec Ideal S10000x128 .f32) (B : Vec Ideal S4x128x128 .f32) (C : Vec Ideal S16x4 .f32) (R : Vec Ideal S128x128 .f32) (n : Fin 10000) :
    nodeRow X (sumsAt A1 A2 C X) B R n
      = rowK (srcOf A1) (dstOf A1) (relOf A2) (fun r b => C (ix2 r b)) (fun b d j => B (ix3 b d j)) (fun d j => R (ix2 d j)) (fun n d => X (ix2 n d)) n := by
  have h : ∀ b d, sumsAt A1 A2 C X (ix3 b n d)
      = accK (srcOf A1) (dstOf A1) (relOf A2) (fun r b => C (ix2 r b)) (fun n d => X (ix2 n d)) b n d :=
    fun b d => accAcc_apply A1 A2 h1 h2 C X _ (cntAcc_apply A1 A2 h1 h2) b n d
  funext j
  unfold nodeRow rowK
  simp only [h]

include h1 h2 in
theorem hiddenAt_apply (A3 : Vec Ideal S4x128x128 .f32) (A4 : Vec Ideal S16x4 .f32) (A5 : Vec Ideal S128x128 .f32) (A6 A7 : Vec Ideal S128 .f32)
    (n : Fin 10000) (j : Fin 128) :
    hiddenAt A0 A1 A2 A3 A4 A5 A6 A7 (ix2 n j)
      = max (lnorm (rowK (srcOf A1) (dstOf A1) (relOf A2) (fun r b => A4 (ix2 r b)) (fun b d j => A3 (ix3 b d j)) (fun d j => A5 (ix2 d j))
          (fun n d => A0 (ix2 n d)) n) j * A6 (ix1 j) + A7 (ix1 j)) 0 := by
  unfold hiddenAt
  rw [layer2_apply, nodeRow_eq A1 A2 h1 h2]
  pointwise

include h1 h2 in
theorem outAt_apply (H : Vec Ideal S10000x128 .f32) (A8 : Vec Ideal S4x128x128 .f32) (A9 : Vec Ideal S16x4 .f32) (A10 : Vec Ideal S128x128 .f32)
    (A11 A12 : Vec Ideal S128 .f32) (A13 : Vec Ideal S_ .f32) (n : Fin 10000) (j : Fin 128) :
    outAt A1 A2 H A8 A9 A10 A11 A12 A13 (ix2 n j)
      = lnorm (rowK (srcOf A1) (dstOf A1) (relOf A2) (fun r b => A9 (ix2 r b)) (fun b d j => A8 (ix3 b d j)) (fun d j => A10 (ix2 d j))
          (fun n d => H (ix2 n d)) n) j * A11 (ix1 j) + A12 (ix1 j) + A13 ix0 * H (ix2 n j) := by
  unfold outAt
  rw [layer4_apply, nodeRow_eq A1 A2 h1 h2]
  pointwise

end Terms

section Memory

variable (c : Dev nD) (m : (ℓ : Loc nD τ sig) → Buf (Elt Ideal) ℓ)

theorem W1_v7 : at_ (W1 m) c main_v7 = shapeCast S1x128 (m ((c : Thread nD τ).loc main_arg6)) shapeCasts_S128_S1x128 := by
  show StableHlo.after hostOps0 (V0 m c) (Proc.devRef .tc main_v7) = _
  unfold_abbrev_sides
  after_results
  rfl
theorem W1_v8 : at_ (W1 m) c main_v8 = shapeCast S1x128 (m ((c : Thread nD τ).loc main_arg7)) shapeCasts_S128_S1x128 := by
  show StableHlo.after hostOps0 (V0 m c) (Proc.devRef .tc main_v8) = _
  unfold_abbrev_sides
  after_results
  rfl
theorem W1_v9 : at_ (W1 m) c main_v9 = shapeCast S1x128 (m ((c : Thread nD τ).loc main_arg11)) shapeCasts_S128_S1x128 := by
  show StableHlo.after hostOps0 (V0 m c) (Proc.devRef .tc main_v9) = _
  unfold_abbrev_sides
  after_results
  rfl
theorem W1_v10 : at_ (W1 m) c main_v10 = shapeCast S1x128 (m ((c : Thread nD τ).loc main_arg12)) shapeCasts_S128_S1x128 := by
  show StableHlo.after hostOps0 (V0 m c) (Proc.devRef .tc main_v10) = _
  unfold_abbrev_sides
  after_results
  rfl
theorem W1_v11 : at_ (W1 m) c main_v11 = shapeCast S1x1 (m ((c : Thread nD τ).loc main_arg13)) shapeCasts_S_S1x1 := by
  show StableHlo.after hostOps0 (V0 m c) (Proc.devRef .tc main_v11) = _
  unfold_abbrev_sides
  after_results
  rfl

theorem W1_old (r : Ref sig .tc) (h : r ∉ hostOps0_W) : at_ (W1 m) c r = m ((c : Thread nD τ).loc r) := V1_of m c r h

theorem sumsOf_eq (C : Vec Ideal S16x4 .f32) (X : Vec Ideal S10000x128 .f32) :
    sumsOf c m C X = sumsAt (m ((c : Thread nD τ).loc main_arg1)) (m ((c : Thread nD τ).loc main_arg2)) C X := by
  unfold sumsOf countsOf
  rw [W1_v2, W1_v5, W1_v6]
  rfl

theorem hiddenOf_eq : hiddenOf c m = hiddenAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) := by
  unfold hiddenOf
  rw [sumsOf_eq, W1_v7, W1_v8, W1_old c m main_arg0 (by decide), W1_old c m main_arg3 (by decide), W1_old c m main_arg4 (by decide),
    W1_old c m main_arg5 (by decide)]
  rfl

/-- The result the program leaves, from the arguments. -/
theorem result_eq : at_ (W6 m) c main_v16 = outAt (m ((c : Thread nD τ).loc main_arg1)) (m ((c : Thread nD τ).loc main_arg2))
    (hiddenAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) := by
  rw [W6_v16, hiddenOf_eq, sumsOf_eq, W1_v9, W1_v10, W1_v11, W1_old c m main_arg8 (by decide), W1_old c m main_arg9 (by decide),
    W1_old c m main_arg10 (by decide)]
  rfl

end Memory

end Cert.KernelIdeal.Body

end
-- ==== Proof.ValueRef.lean ====
/-
  What the reference computes, entry by entry, on extended reals.
-/
module

public import proofs.«01_k».proof.Proof.Gen.ReferenceIdeal.Run
public import proofs.«01_k».proof.Proof.ValueAcc
public import Idealize.ShloMosaic.Lib.Routing.OpsPair
public import Idealize.ShloMosaic.Lib.Routing.Ops
public import Idealize.ShloMosaic.Lib.ReduceAll

@[expose] public section

set_option maxRecDepth 16384

noncomputable section

namespace Cert.ReferenceIdeal.Body

open Cert.ReferenceIdeal Cert.ReferenceIdeal.Gen Cert.Spec
open Idealize.ShloMosaic Idealize.ShloMosaic.TcCoe Idealize.ShloMosaic.Tactic
open Cert.KernelIdeal.Body (srcOf dstOf relOf)

section Terms

variable {F : FTy → Type} [FloatOps F]
variable (X : Vec F S10000x128 .f32) (A1 : IVec S2x320000 32) (A2 : IVec S320000 32)

/-- Every edge's segment, -/
def segs : IVec S320000 32 :=
  addi (muli A2 (broadcastInDim S320000 ![] bcast_S_S320000 (constantI S_ 32 10000#32)))
    (shapeCast _ (extractStridedSlice S1x320000 ![1, 0] A1 slices_S2x320000_S1x320000_1_0) shapeCasts_S1x320000_S320000)

/-- its source, -/
def srcs : IVec S320000 32 := shapeCast _ (extractStridedSlice S1x320000 ![0, 0] A1 slices_S2x320000_S1x320000_0_0) shapeCasts_S1x320000_S320000

/-- as a row number counted from the end where it is negative, -/
def takes : IVec S320000x1 32 :=
  broadcastInDim S320000x1 ![0] bcast_S320000_S320000x1_0
    (select (cmpi .slt (srcs A1) (broadcastInDim S320000 ![] bcast_S_S320000 (constantI S_ 32 0#32)))
      (addi (srcs A1) (broadcastInDim S320000 ![] bcast_S_S320000 (constantI S_ 32 10000#32))) (srcs A1))

/-- whether it is a row, -/
def isRow : IVec S320000x1 1 :=
  andi (cmpi .sge (takes A1) (broadcastInDim S320000x1 ![] bcast_S_S320000x1 (constantI S_ 32 0#32)))
    (cmpi .sle (takes A1) (broadcastInDim S320000x1 ![0, 1] bcast_S1x1_S320000x1_0_1 (broadcastInDim S1x1 ![1] bcast_S1_S1x1_1 (constantI S1 32 9999#32))))

/-- its message, -/
def msgs : FVec F S320000x128 .f32 :=
  select (broadcastInDim S320000x128 ![0] bcast_S320000_S320000x128_0
      (Host.reduce IntOp.andi (isRow A1) (constantI S_ 1 1#1) reducesTo_S320000x1_S320000_d1 h_S_))
    (Host.gather gather_S10000x128_S320000x1_S320000x128_1_0_n_n_0_1_1128 X (takes A1))
    (broadcastInDim S320000x128 ![] bcast_S_S320000x128 (constant S_ .f32 0x7FC00000#32))

/-- the messages' sums over the segments, -/
def aggs : FVec F S160000x128 .f32 :=
  Host.scatterAdd scatter_S160000x128_S320000x1_S320000x128_1_0_0_1 (broadcastInDim S160000x128 ![] bcast_S_S160000x128 (constant S_ .f32 0x00000000#32))
    (broadcastInDim S320000x1 ![0] bcast_S320000_S320000x1_0 (segs A1 A2)) (msgs X A1)

/-- and the segments' sizes. -/
def cnts : FVec F S160000 .f32 :=
  Host.scatterAdd scatter_S160000_S320000x1_S320000_n_0_0_1 (broadcastInDim S160000 ![] bcast_S_S160000 (constant S_ .f32 0x00000000#32))
    (broadcastInDim S320000x1 ![0] bcast_S320000_S320000x1_0 (segs A1 A2)) (broadcastInDim S320000 ![] bcast_S_S320000 (constant S_ .f32 0x3F800000#32))

/-- A layer's rows before they are normalized. -/
def conv (B : Vec F S4x128x128 .f32) (C : Vec F S16x4 .f32) (R : Vec F S128x128 .f32) : FVec F S10000x128 .f32 :=
  addf (Host.dotGeneral dot_S16x10000x128_S16x128x128_S10000x128_20_10_1_2_n_n none
      (Host.divf (shapeCast _ (aggs X A1 A2) shapeCasts_S160000x128_S16x10000x128)
        (broadcastInDim S16x10000x128 ![0, 1, 2] bcast_S16x10000x1_S16x10000x128_0_1_2
          (maximumf (broadcastInDim S16x10000x1 ![] bcast_S_S16x10000x1 (id (constant S_ .f32 0x3F800000#32)))
            (shapeCast _ (cnts (F := F) A1 A2) shapeCasts_S160000_S16x10000x1))))
      (Host.dotGeneral dot_S16x4_S4x128x128_S16x128x128_1_0_0_12_n_n none C B))
    (Host.dotGeneral dot_S10000x128_S128x128_S10000x128_1_0_0_1_n_n none X R)

/-- Rows less their means, -/
def centered (O : FVec F S10000x128 .f32) : FVec F S10000x128 .f32 :=
  subf O (broadcastInDim S10000x128 ![0, 1] bcast_S10000x1_S10000x128_0_1 (Host.divf (broadcastInDim S10000x1 ![0] bcast_S10000_S10000x1_0
    (Host.reduceAdd O (constant S_ .f32 0x00000000#32) reducesTo_S10000x128_S10000_d1 h_S_))
      (broadcastInDim S10000x1 ![] bcast_S_S10000x1 (constant S_ .f32 0x43000000#32))))

/-- the number the squares' sum is divided by, -/
def degrees : FVec F S_ .f32 := subf (constant S_ .f32 0x43000000#32) (sitofp .f32 (constantI S_ 32 0#32))

/-- the roots of the variances, -/
def deviations (O : FVec F S10000x128 .f32) : FVec F S10000x1 .f32 :=
  Host.sqrt (addf (select (broadcastInDim S10000x1 ![] bcast_S_S10000x1 (cmpf .ogt (degrees (F := F)) (constant S_ .f32 0x00000000#32)))
      (Host.divf (broadcastInDim S10000x1 ![0] bcast_S10000_S10000x1_0
        (Host.reduceAdd (mulf (centered O) (centered O)) (constant S_ .f32 0x00000000#32) reducesTo_S10000x128_S10000_d1 h_S_))
        (broadcastInDim S10000x1 ![] bcast_S_S10000x1 (degrees (F := F))))
      (broadcastInDim S10000x1 ![] bcast_S_S10000x1 (id (constant S_ .f32 0x7FC00000#32))))
    (broadcastInDim S10000x1 ![] bcast_S_S10000x1 (constant S_ .f32 0x3727C5AC#32)))

/-- and the rows normalized, scaled and moved. -/
def norm (O : FVec F S10000x128 .f32) (g b : Vec F S128 .f32) : FVec F S10000x128 .f32 :=
  addf (mulf (Host.divf (centered O) (broadcastInDim S10000x128 ![0, 1] bcast_S10000x1_S10000x128_0_1 (deviations O)))
      (broadcastInDim S10000x128 ![0, 1] bcast_S1x128_S10000x128_0_1 (broadcastInDim S1x128 ![1] bcast_S128_S1x128_1 g)))
    (broadcastInDim S10000x128 ![0, 1] bcast_S1x128_S10000x128_0_1 (broadcastInDim S1x128 ![1] bcast_S128_S1x128_1 b))

/-- The first layer's result. -/
def hidden (O : FVec F S10000x128 .f32) (g b : Vec F S128 .f32) : FVec F S10000x128 .f32 :=
  maximumf (norm O g b) (broadcastInDim S10000x128 ![] bcast_S_S10000x128 (constant S_ .f32 0x00000000#32))

/-- The second layer's result. -/
def result (H O : FVec F S10000x128 .f32) (g b : Vec F S128 .f32) (s : Vec F S_ .f32) : FVec F S10000x128 .f32 :=
  addf (norm O g b) (mulf (broadcastInDim S10000x128 ![] bcast_S_S10000x128 s) H)

open Idealize.ShloMosaic.StableHlo Cert.ReferenceIdeal.Value

theorem v23_eq (V0 : Valuation τ sig (Elt F)) : res_main_v23 V0 = conv (V0 (Proc.devRef .tc main_arg0)) (V0 (Proc.devRef .tc main_arg1))
    (V0 (Proc.devRef .tc main_arg2)) (V0 (Proc.devRef .tc main_arg3)) (V0 (Proc.devRef .tc main_arg4)) (V0 (Proc.devRef .tc main_arg5)) := rfl

theorem v42_eq (V0 : Valuation τ sig (Elt F)) : res_main_v42 V0 = hidden (res_main_v23 V0) (V0 (Proc.devRef .tc main_arg6)) (V0 (Proc.devRef .tc main_arg7)) := rfl

theorem v66_eq (V0 : Valuation τ sig (Elt F)) : res_main_v66 V0 = conv (res_main_v42 V0) (V0 (Proc.devRef .tc main_arg1))
    (V0 (Proc.devRef .tc main_arg2)) (V0 (Proc.devRef .tc main_arg8)) (V0 (Proc.devRef .tc main_arg9)) (V0 (Proc.devRef .tc main_arg10)) := rfl

end Terms

section Norm

theorem degrees_apply (y : S_.Idx) : degrees (F := Ideal) y = c128 := by
  show Ideal.ofBits .f32 0x43000000#32 - (((0#32 : BitVec 32).toInt : ℝ) : EReal) = c128
  simp

theorem c128_pos : 0 < c128 := by
  rw [c128_eq]
  exact EReal.coe_pos.2 (by norm_num)

theorem norm_apply (O : FVec Ideal S10000x128 .f32) (g b : Vec Ideal S128 .f32) (n : Fin 10000) (j : Fin 128) :
    norm (F := Ideal) O g b (ix2 n j) = lnorm (fun j => O (ix2 n j)) j * g (ix1 j) + b (ix1 j) := by
  pointwise [norm, centered, deviations, degrees_apply]
  rw [if_pos c128_pos]
  rfl

theorem hidden_apply (O : FVec Ideal S10000x128 .f32) (g b : Vec Ideal S128 .f32) (n : Fin 10000) (j : Fin 128) :
    hidden (F := Ideal) O g b (ix2 n j) = max (lnorm (fun j => O (ix2 n j)) j * g (ix1 j) + b (ix1 j)) 0 := by
  unfold hidden
  pointwise [norm_apply]

theorem result_apply (H O : FVec Ideal S10000x128 .f32) (g b : Vec Ideal S128 .f32) (s : Vec Ideal S_ .f32) (n : Fin 10000) (j : Fin 128) :
    result (F := Ideal) H O g b s (ix2 n j) = lnorm (fun j => O (ix2 n j)) j * g (ix1 j) + b (ix1 j) + s ix0 * H (ix2 n j) := by
  unfold result
  pointwise [norm_apply]

end Norm

section Sums

variable (X : Vec Ideal S10000x128 .f32) (A1 : IVec S2x320000 32) (A2 : IVec S320000 32)

theorem agg_start0 (idx : IVec S320000x1 32) (k : Fin 320000) (j : Fin 128) :
    scatter_S160000x128_S320000x1_S320000x128_1_0_0_1.start (ix2 k j) idx 0 = (idx (ix2 k 0)).toInt :=
  congrArg (fun z => (idx z).toInt) (funext fun a => by fin_cases a <;> rfl)

theorem cnt_start (idx : IVec S320000x1 32) (k : Fin 320000) : scatter_S160000_S320000x1_S320000_n_0_0_1.start (ix1 k) idx 0 = (idx (ix2 k 0)).toInt :=
  congrArg (fun z => (idx z).toInt) (funext fun a => by fin_cases a <;> rfl)

/-- Update `(k, d)` of the messages lands at `(e, j)` exactly when its word is `e` and `d` is `j`. -/
theorem agg_lands (idx : IVec S320000x1 32) (k : Fin 320000) (d : Fin 128) (e : Fin 160000) (j : Fin 128) :
    scatter_S160000x128_S320000x1_S320000x128_1_0_0_1.resultIdx? (ix2 k d) idx = some (ix2 e j) ↔ (idx (ix2 k 0)).toInt = (e.val : Int) ∧ d = j := by
  refine (Routing.resultIdx?_ix2 scatter_S160000x128_S320000x1_S320000x128_1_0_0_1 (ix2 k d) idx e j).trans ?_
  have h1 : scatter_S160000x128_S320000x1_S320000x128_1_0_0_1.start (ix2 k d) idx 1 = 0 := rfl
  have w0 : scatter_S160000x128_S320000x1_S320000x128_1_0_0_1.window (ix2 k d) 0 = 0 := rfl
  have w1 : scatter_S160000x128_S320000x1_S320000x128_1_0_0_1.window (ix2 k d) 1 = d.val := rfl
  rw [agg_start0, h1, w0, w1, Fin.ext_iff]
  omega

/-- Update `k` of the ones lands at `e` exactly when its word is `e`. -/
theorem cnt_lands (idx : IVec S320000x1 32) (k : Fin 320000) (e : Fin 160000) :
    scatter_S160000_S320000x1_S320000_n_0_0_1.resultIdx? (ix1 k) idx = some (ix1 e) ↔ (idx (ix2 k 0)).toInt = (e.val : Int) := by
  refine (Routing.resultIdx?_ix1 scatter_S160000_S320000x1_S320000_n_0_0_1 (ix1 k) idx e).trans ?_
  have w0 : scatter_S160000_S320000x1_S320000_n_0_0_1.window (ix1 k) 0 = 0 := rfl
  rw [cnt_start, w0]
  omega

variable (h1 : ∀ y, (A1 y).toNat < 10000) (h2 : ∀ y, (A2 y).toNat < 16)

theorem segs_apply (k : Fin 320000) : segs A1 A2 (ix1 k) = A2 (ix1 k) * 10000#32 + A1 (ix2 1 k) := by
  unfold segs
  pointwise
  rfl

include h1 h2 in
/-- Edge `k`'s segment is relation `r`'s at node `n` exactly when its relation is `r` and its destination `n`. -/
theorem seg_iff (k : Fin 320000) (n : Fin 10000) (r : Fin 16) (h : r.val * 10000 + n.val < 160000) :
    (segs A1 A2 (ix1 k)).toInt = (((⟨r.val * 10000 + n.val, h⟩ : Fin 160000)).val : Int) ↔ dstOf A1 k = n ∧ relOf A2 k = r := by
  have e1 := h1 (ix2 1 k)
  have e2 := h2 (ix1 k)
  have hn := n.isLt
  have hs : (segs A1 A2 (ix1 k)).toNat = (A2 (ix1 k)).toNat * 10000 + (A1 (ix2 1 k)).toNat := by
    rw [segs_apply, BitVec.toNat_add, BitVec.toNat_mul]
    show (_ * 10000 % 2 ^ 32 + _) % 2 ^ 32 = _
    omega
  rw [BitVec.toInt_eq_toNat_of_lt (by omega), hs, Fin.ext_iff, Fin.ext_iff]
  show (((A2 (ix1 k)).toNat * 10000 + (A1 (ix2 1 k)).toNat : ℕ) : Int) = ((r.val * 10000 + n.val : ℕ) : Int)
    ↔ (A1 (ix2 1 k)).toNat % 10000 = n.val ∧ (A2 (ix1 k)).toNat % 16 = r.val
  omega

include h1 in
theorem takes_apply (k : Fin 320000) (z : Fin 1) : takes A1 (ix2 k z) = A1 (ix2 0 k) := by
  unfold takes srcs
  pointwise
  exact Routing.wrap_of_lt _ _ (lt_trans (h1 _) (by norm_num))

include h1 in
theorem isRow_apply (y : S320000x1.Idx) : isRow A1 y = 1#1 := by
  idx_vars y
  unfold isRow
  pointwise
  rw [takes_apply A1 h1]
  have h := h1 (ix2 0 y0)
  have e : (A1 (ix2 0 y0)).toInt = (A1 (ix2 0 y0)).toNat := BitVec.toInt_eq_toNat_of_lt (by omega)
  have ha : IntOp.cmpi .sge (A1 (ix2 0 y0)) 0#32 = 1#1 := IntOp.cmpi_sge.2 (by
    show (0 : Int) ≤ _
    omega)
  have hb : IntOp.cmpi .sle (A1 (ix2 0 y0)) 9999#32 = 1#1 := IntOp.cmpi_sle.2 (by
    show _ ≤ (9999 : Int)
    omega)
  rw [ha, hb]
  rfl

include h1 in
/-- A message is the source's row. -/
theorem msgs_apply (k : Fin 320000) (j : Fin 128) : msgs (F := Ideal) X A1 (ix2 k j) = X (ix2 (srcOf A1 k) j) := by
  have hg : Host.gather gather_S10000x128_S320000x1_S320000x128_1_0_n_n_0_1_1128 X (takes A1) (ix2 k j) = X (ix2 (srcOf A1 k) j) :=
    Routing.gather_row gather_S10000x128_S320000x1_S320000x128_1_0_n_n_0_1_1128 rfl rfl rfl rfl rfl X (takes A1) k j (srcOf A1 k)
      (by
        refine (takes_apply A1 h1 k 0).trans (BitVec.eq_of_toNat_eq ?_)
        rw [BitVec.toNat_ofNat]
        show (A1 (ix2 0 k)).toNat = (A1 (ix2 0 k)).toNat % 10000 % 2 ^ 32
        have := h1 (ix2 0 k)
        omega) (by norm_num)
  have hf : Finset.fold IntOp.andi (1#1) (fun x => isRow A1 (ix2 k x)) (Finset.univ : Finset (Fin 1)) = 1#1 := by
    simp only [isRow_apply A1 h1]
    rfl
  unfold msgs
  pointwise
  rw [hf, hg]
  rfl

theorem aggs_sum (e : Fin 160000) (j : Fin 128) : aggs (F := Ideal) X A1 A2 (ix2 e j)
    = ∑ k : Fin 320000, if (segs A1 A2 (ix1 k)).toInt = (e.val : Int) then msgs (F := Ideal) X A1 (ix2 k j) else 0 := by
  unfold aggs Host.scatterAdd
  rw [Ideal.hostScatterAdd_def]
  unfold Ideal.hostScatterAdd
  rw [Finset.sum_filter, sum_idx2]
  have z : broadcastInDim S160000x128 ![] bcast_S_S160000x128 (constant (F := Ideal) S_ .f32 0x00000000#32) (ix2 e j) = (0 : EReal) := Ideal.ofBits_zero_f32
  rw [z, zero_add]
  refine Finset.sum_congr rfl fun k _ => ?_
  have hk : ∀ d, (scatter_S160000x128_S320000x1_S320000x128_1_0_0_1.resultIdx? (ix2 k d)
      (broadcastInDim S320000x1 ![0] bcast_S320000_S320000x1_0 (segs A1 A2)) = some (ix2 e j)) ↔ (segs A1 A2 (ix1 k)).toInt = (e.val : Int) ∧ d = j :=
    fun d => by
      refine (agg_lands _ k d e j).trans ?_
      pointwise
  simp only [hk]
  by_cases hs : (segs A1 A2 (ix1 k)).toInt = (e.val : Int)
  · simp only [hs, true_and, if_true]
    rw [Finset.sum_ite_eq' Finset.univ j, if_pos (Finset.mem_univ _)]
  · simp only [hs, false_and, if_false]
    exact Finset.sum_const_zero

theorem cnts_sum (e : Fin 160000) : cnts (F := Ideal) A1 A2 (ix1 e)
    = ∑ k : Fin 320000, if (segs A1 A2 (ix1 k)).toInt = (e.val : Int) then 1 else 0 := by
  unfold cnts Host.scatterAdd
  rw [Ideal.hostScatterAdd_def]
  unfold Ideal.hostScatterAdd
  rw [Finset.sum_filter, sum_idx1]
  have z : broadcastInDim S160000 ![] bcast_S_S160000 (constant (F := Ideal) S_ .f32 0x00000000#32) (ix1 e) = (0 : EReal) := Ideal.ofBits_zero_f32
  rw [z, zero_add]
  refine Finset.sum_congr rfl fun k _ => ?_
  have hk : (scatter_S160000_S320000x1_S320000_n_0_0_1.resultIdx? (ix1 k)
      (broadcastInDim S320000x1 ![0] bcast_S320000_S320000x1_0 (segs A1 A2)) = some (ix1 e)) ↔ (segs A1 A2 (ix1 k)).toInt = (e.val : Int) := by
      refine (cnt_lands _ k e).trans ?_
      pointwise
  have o : broadcastInDim S320000 ![] bcast_S_S320000 (constant (F := Ideal) S_ .f32 0x3F800000#32) (ix1 k) = (1 : EReal) := Ideal.ofBits_one_f32
  simp only [hk, o]

include h1 h2 in
theorem aggs_apply (n : Fin 10000) (r : Fin 16) (h : r.val * 10000 + n.val < 160000) (j : Fin 128) :
    aggs (F := Ideal) X A1 A2 (ix2 ⟨r.val * 10000 + n.val, h⟩ j) = aggR (srcOf A1) (dstOf A1) (relOf A2) (fun n d => X (ix2 n d)) r n j := by
  rw [aggs_sum]
  unfold aggR
  refine Finset.sum_congr rfl fun k _ => ?_
  rw [msgs_apply X A1 h1]
  exact Cert.KernelIdeal.Body.ite_cond _ (seg_iff A1 A2 h1 h2 k n r h)

include h1 h2 in
theorem cnts_apply (n : Fin 10000) (r : Fin 16) (h : r.val * 10000 + n.val < 160000) :
    cnts (F := Ideal) A1 A2 (ix1 ⟨r.val * 10000 + n.val, h⟩) = cnt (dstOf A1) (relOf A2) n r := by
  rw [cnts_sum]
  unfold cnt
  refine Finset.sum_congr rfl fun k _ => ?_
  exact Cert.KernelIdeal.Body.ite_cond _ (seg_iff A1 A2 h1 h2 k n r h)

include h1 h2 in
theorem conv_apply (B : Vec Ideal S4x128x128 .f32) (C : Vec Ideal S16x4 .f32) (R : Vec Ideal S128x128 .f32) (n : Fin 10000) (j : Fin 128) :
    conv (F := Ideal) X A1 A2 B C R (ix2 n j)
      = rowR (srcOf A1) (dstOf A1) (relOf A2) (fun r b => C (ix2 r b)) (fun b d j => B (ix3 b d j)) (fun d j => R (ix2 d j)) (fun n d => X (ix2 n d)) n j := by
  have one : (id (constant S_ .f32 0x3F800000#32) : FVec Ideal S_ .f32) ix0 = 1 := Ideal.ofBits_one_f32
  pointwise [conv]
  simp only [one, aggs_apply X A1 A2 h1 h2, cnts_apply A1 A2 h1 h2]
  rfl

end Sums

end Cert.ReferenceIdeal.Body

end
-- ==== Proof.Value.lean ====
/-
  The kernel's result is the reference's where the edges are in range and the features, the bases, the coefficients and the
  first layer's scale and shift are finite.
-/
module

public import proofs.«01_k».proof.Proof.ValueKernel
public import proofs.«01_k».proof.Proof.ValueRef

@[expose] public section

set_option maxRecDepth 16384

noncomputable section

namespace Cert.Proof

open Cert.Spec Cert.KernelIdeal Cert.KernelIdeal.Gen
open Idealize.ShloMosaic Idealize.ShloMosaic.TcCoe Idealize.ShloMosaic.Tactic
open Cert.KernelIdeal.Body (srcOf dstOf relOf hiddenAt outAt)
open Cert.ReferenceIdeal.Body (conv hidden result)

/-- An array of reals. -/
def Finite {s : Shape} (v : Vec Ideal s .f32) : Prop := ∀ y, ∃ r : ℝ, v y = (r : EReal)

theorem Finite.eq {s : Shape} {v : Vec Ideal s .f32} (h : Finite v) (y : s.Idx) : v y = (((v y).toReal : ℝ) : EReal) := by
  obtain ⟨r, hr⟩ := h y
  rw [hr]
  rfl

/-- What the precondition says of an entry makes it real. -/
theorem finite_of {s : Shape} {v : Vec Ideal s .f32} (inf : FVec Ideal s .f32) (hi : ∀ y, inf y = Ideal.ofBits .f32 0x7F800000#32)
    (h : (cmpf .olt (Host.absf v) inf : IVec s 1) = fun _ => 1#1) : Finite v := fun y => by
  have hy := congrFun h y
  have ht : Ideal.ofBits .f32 0x7F800000#32 = ⊤ := by
    simp [Ideal.ofBits, Ideal.ieee]
  pointwise at hy
  rw [hi, ht] at hy
  have hlt : max (v y) (-(v y)) < (⊤ : EReal) := by
    by_contra hc
    rw [show (FloatOps.absf (v y) : Ideal .f32) = max (v y) (-(v y)) from rfl, decide_eq_false hc] at hy
    exact absurd hy (by decide)
  have hb : v y ≠ (⊥ : EReal) := fun e => by
    rw [e] at hlt
    exact absurd ((le_max_right _ _).trans_lt hlt) (by simp)
  exact ⟨(v y).toReal, (EReal.coe_toReal ((le_max_left _ _).trans_lt hlt).ne hb).symm⟩

variable (A0 : Vec Ideal S10000x128 .f32) (A1 : Vec Ideal S2x320000 .i32) (A2 : Vec Ideal S320000 .i32)
  (h1 : ∀ y, (A1 y : BitVec 32).toNat < 10000) (h2 : ∀ y, (A2 y : BitVec 32).toNat < 16)

include h1 h2 in
/-- One layer's rows, both ways. -/
theorem row_eq (X : Vec Ideal S10000x128 .f32) (B : Vec Ideal S4x128x128 .f32) (C : Vec Ideal S16x4 .f32) (R : Vec Ideal S128x128 .f32) (hX : Finite X) (hB : Finite B) (hC : Finite C) (n : Fin 10000) :
    rowK (srcOf A1) (dstOf A1) (relOf A2) (fun r b => C (ix2 r b)) (fun b d j => B (ix3 b d j)) (fun d j => R (ix2 d j)) (fun n d => X (ix2 n d)) n
      = fun j => conv (F := Ideal) X A1 A2 B C R (ix2 n j) := by
  funext j
  rw [Cert.ReferenceIdeal.Body.conv_apply X A1 A2 h1 h2]
  have e := rowK_eq_rowR (srcOf A1) (dstOf A1) (relOf A2) (fun r b => (C (ix2 r b)).toReal) (fun b d j => (B (ix3 b d j)).toReal) (fun d j => R (ix2 d j))
    (fun n d => (X (ix2 n d)).toReal) n j
  simp only [← hX.eq, ← hB.eq, ← hC.eq] at e
  exact e

include h1 h2 in
theorem hidden_eq (A3 : Vec Ideal S4x128x128 .f32) (A4 : Vec Ideal S16x4 .f32) (A5 : Vec Ideal S128x128 .f32) (A6 A7 : Vec Ideal S128 .f32)
    (hX : Finite A0) (hB : Finite A3) (hC : Finite A4) :
    hiddenAt A0 A1 A2 A3 A4 A5 A6 A7 = hidden (F := Ideal) (conv (F := Ideal) A0 A1 A2 A3 A4 A5) A6 A7 := by
  funext y
  idx_vars y
  rw [Cert.KernelIdeal.Body.hiddenAt_apply A0 A1 A2 h1 h2, Cert.ReferenceIdeal.Body.hidden_apply, row_eq A1 A2 h1 h2 A0 A3 A4 A5 hX hB hC]

/-- The first layer's result is real. -/
theorem hidden_finite (O : FVec Ideal S10000x128 .f32) (g b : Vec Ideal S128 .f32) (hg : Finite g) (hb : Finite b) : Finite (hidden (F := Ideal) O g b) := fun y => by
  idx_vars y
  rw [Cert.ReferenceIdeal.Body.hidden_apply]
  obtain ⟨r, hr⟩ := lnorm_real (fun j => O (ix2 y0 j)) y1
  obtain ⟨p, hp⟩ := hg (ix1 y1)
  obtain ⟨q, hq⟩ := hb (ix1 y1)
  rw [hr, hp, hq, ← EReal.coe_mul, ← EReal.coe_add]
  exact ⟨max (r * p + q) 0, ((EReal.coe_strictMono.monotone).map_max).symm⟩

include h1 h2 in
/-- The two results. -/
theorem result_eq (A3 : Vec Ideal S4x128x128 .f32) (A4 : Vec Ideal S16x4 .f32) (A5 : Vec Ideal S128x128 .f32) (A6 A7 : Vec Ideal S128 .f32)
    (A8 : Vec Ideal S4x128x128 .f32) (A9 : Vec Ideal S16x4 .f32) (A10 : Vec Ideal S128x128 .f32) (A11 A12 : Vec Ideal S128 .f32) (A13 : Vec Ideal S_ .f32)
    (f0 : Finite A0) (f3 : Finite A3) (f4 : Finite A4) (f6 : Finite A6) (f7 : Finite A7) (f8 : Finite A8) (f9 : Finite A9) :
    outAt A1 A2 (hiddenAt A0 A1 A2 A3 A4 A5 A6 A7) A8 A9 A10 A11 A12 A13
      = result (F := Ideal) (hidden (F := Ideal) (conv (F := Ideal) A0 A1 A2 A3 A4 A5) A6 A7)
        (conv (F := Ideal) (hidden (F := Ideal) (conv (F := Ideal) A0 A1 A2 A3 A4 A5) A6 A7) A1 A2 A8 A9 A10) A11 A12 A13 := by
  rw [hidden_eq A0 A1 A2 h1 h2 A3 A4 A5 A6 A7 f0 f3 f4]
  generalize hH : hidden (F := Ideal) (conv (F := Ideal) A0 A1 A2 A3 A4 A5) A6 A7 = H
  have fH : Finite H := hH ▸ hidden_finite _ A6 A7 f6 f7
  funext y
  idx_vars y
  rw [Cert.KernelIdeal.Body.outAt_apply A1 A2 h1 h2, Cert.ReferenceIdeal.Body.result_apply, row_eq A1 A2 h1 h2 H A8 A9 A10 fH f8 f9]

end Cert.Proof

end
-- ==== Proof.Algebraic.lean ====
/-
  The kernel and the reference end with equal results, and the frames under the stronger precondition.
-/
module

public import proofs.«01_k».proof.Proof.Frames
public import proofs.«01_k».proof.Proof.Value

@[expose] public section

set_option maxRecDepth 16384

noncomputable section

namespace Cert.Proof

open Idealize.ShloMosaic Idealize.ShloMosaic.TcCoe Idealize.SL.Sem

instance preFacts_finite : Cert.Pre_edges_in_range_finite.Facts where
  bcast_S_S2x320000 := by decide
  bcast_S_S320000 := by decide
  bcast_S_S10000x128 := by decide
  bcast_S_S4x128x128 := by decide
  bcast_S_S16x4 := by decide
  bcast_S_S128 := by decide

theorem nodes_lt (m : (ℓ : Loc Cert.KernelIdeal.nD Cert.KernelIdeal.τ Cert.KernelIdeal.sig) → Buf (Elt Ideal) ℓ)
    (h : Cert.Pre_KernelIdeal_edges_in_range_finite m) (c : Dev Cert.KernelIdeal.nD) (y : Cert.KernelIdeal.S2x320000.Idx) :
    (m ((c : Thread Cert.KernelIdeal.nD Cert.KernelIdeal.τ).loc Cert.KernelIdeal.main_arg1) y : BitVec 32).toNat < 10000 :=
  toNat_lt_of_both (by decide) (congrFun (h c).1 y)

theorem relations_lt (m : (ℓ : Loc Cert.KernelIdeal.nD Cert.KernelIdeal.τ Cert.KernelIdeal.sig) → Buf (Elt Ideal) ℓ)
    (h : Cert.Pre_KernelIdeal_edges_in_range_finite m) (c : Dev Cert.KernelIdeal.nD) (y : Cert.KernelIdeal.S320000.Idx) :
    (m ((c : Thread Cert.KernelIdeal.nD Cert.KernelIdeal.τ).loc Cert.KernelIdeal.main_arg2) y : BitVec 32).toNat < 16 :=
  toNat_lt_of_both (by decide) (congrFun (h c).2.1 y)

theorem inRange_finite (m : (ℓ : Loc Cert.KernelIdeal.nD Cert.KernelIdeal.τ Cert.KernelIdeal.sig) → Buf (Elt Ideal) ℓ)
    (h : Cert.Pre_KernelIdeal_edges_in_range_finite m) : Cert.KernelIdeal.Body.InRange m :=
  Cert.KernelIdeal.Body.inRange_of (nodes_lt m h) (relations_lt m h)

theorem frame_kernelIdeal_finite : Cert.quiescent_KernelIdeal_pre_edges_in_range_finite := by
  intro m g hp
  refine (θ_run Cert.KernelIdeal.defs _ _).mono (fun r h => ⟨fun c => ?_, h.2⟩) (frame_kernelIdeal_of m g (inRange_finite m hp))
  have hr := (h.1 c).2
  refine ⟨?_, ?_, ?_, ?_, ?_, ?_, ?_, ?_, ?_, ?_, ?_, ?_, ?_, ?_⟩ <;> exact hr _ rfl (by decide) (by decide)

theorem frame_referenceIdeal_finite : Cert.quiescent_ReferenceIdeal_pre_edges_in_range_finite :=
  fun m g _ => frame_referenceIdeal m g trivial

section Reference

open Idealize.ShloMosaic.StableHlo Cert.ReferenceIdeal Cert.ReferenceIdeal.Gen Cert.ReferenceIdeal.Value Cert.ReferenceIdeal.Body

/-- The reference's result as two layers over its arguments. -/
theorem reference_eq (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v87) = result (F := Ideal)
        (hidden (F := Ideal) (conv (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))) (m ((c : Thread nD τ).loc main_arg6)) (m ((c : Thread nD τ).loc main_arg7)))
        (conv (F := Ideal) (hidden (F := Ideal) (conv (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))) (m ((c : Thread nD τ).loc main_arg6)) (m ((c : Thread nD τ).loc main_arg7)))
          (m ((c : Thread nD τ).loc main_arg1)) (m ((c : Thread nD τ).loc main_arg2)) (m ((c : Thread nD τ).loc main_arg8))
          (m ((c : Thread nD τ).loc main_arg9)) (m ((c : Thread nD τ).loc main_arg10)))
        (m ((c : Thread nD τ).loc main_arg11)) (m ((c : Thread nD τ).loc main_arg12)) (m ((c : Thread nD τ).loc main_arg13))) := by
  refine (θ_run defs _ _).mono (fun r h c => (h c).1.trans ?_) (run (F := Ideal) m g)
  have e1 := (v42_eq (F := Ideal) (launchContents m c)).trans
    (congrArg (fun O => hidden (F := Ideal) O (launchContents m c (Proc.devRef .tc main_arg6)) (launchContents m c (Proc.devRef .tc main_arg7)))
      (v23_eq (F := Ideal) (launchContents m c)))
  have e2 := v66_eq (F := Ideal) (launchContents m c)
  rw [e1] at e2
  refine Eq.trans (b := result (F := Ideal) (res_main_v42 (launchContents m c)) (res_main_v66 (launchContents m c)) (launchContents m c (Proc.devRef .tc main_arg11))
    (launchContents m c (Proc.devRef .tc main_arg12)) (launchContents m c (Proc.devRef .tc main_arg13))) rfl ?_
  rw [e1, e2]

end Reference

theorem algebraic : Cert.algebraic_KernelIdeal_ReferenceIdeal_pre_edges_in_range_finite := by
  intro m g m' g' hp hagree
  refine ⟨fun c => Cert.KernelIdeal.Body.at_ (Cert.KernelIdeal.Body.W6 m) c Cert.KernelIdeal.main_v16, ?_, ?_⟩
  · refine (θ_run Cert.KernelIdeal.defs _ _).mono (fun r h c => ⟨(h.1 c).1, ?_⟩) (frame_kernelIdeal_of m g (inRange_finite m hp))
    have hr := (h.1 c).2
    refine ⟨?_, ?_, ?_, ?_, ?_, ?_, ?_, ?_, ?_, ?_, ?_, ?_, ?_, ?_⟩ <;> exact hr _ rfl (by decide) (by decide)
  · have hrun := (θ_run Cert.ReferenceIdeal.defs _ _).mono (fun r h c => (h c).2) (Cert.ReferenceIdeal.Value.run (F := Ideal) m' g')
    refine (θ_run Cert.ReferenceIdeal.defs _ _).mono (fun r h c => ⟨(h.1 c).trans ?_, h.2 c⟩) (θ_run_and (reference_eq m' g') hrun)
    obtain ⟨a0, a1, a2, a3, a4, a5, a6, a7, a8, a9, a10, a11, a12, a13⟩ := hagree c
    rw [a0, a1, a2, a3, a4, a5, a6, a7, a8, a9, a10, a11, a12, a13]
    have hc := (hp c).2.2
    refine ((Cert.KernelIdeal.Body.result_eq c m).trans (result_eq _ _ _ (nodes_lt m hp c) (relations_lt m hp c) _ _ _ _ _ _ _ _ _ _ _
      (finite_of _ ?_ hc.1) (finite_of _ ?_ hc.2.1) (finite_of _ ?_ hc.2.2.1) (finite_of _ ?_ hc.2.2.2.1) (finite_of _ ?_ hc.2.2.2.2.1)
      (finite_of _ ?_ hc.2.2.2.2.2.1) (finite_of _ ?_ hc.2.2.2.2.2.2))).symm <;> exact fun _ => rfl

end Cert.Proof

end
-- ==== Proof.lean ====
module

public import proofs.«01_k».proof.Defs
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, preFacts, preFacts_finite,
  frame_kernel, frame_kernelIdeal, frame_kernelIdeal_finite, frame_referenceIdeal, frame_referenceIdeal_finite, trivial, algebraic⟩

end Cert.Proof

end
